-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_domain [hPre_inputs_in_domain : Cert.Pre_inputs_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_domain [hPre_inputs_in_domain : Cert.Pre_inputs_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_inputs_in_domain [hKernelIdeal : Cert.KernelIdeal.Facts] [hPre_inputs_in_domain : Cert.Pre_inputs_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_inputs_in_domain [hReferenceIdeal : Cert.ReferenceIdeal.Facts] [hPre_inputs_in_domain : Cert.Pre_inputs_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_inputs_in_domain [hKernelIdeal : Cert.KernelIdeal.Facts] [hReferenceIdeal : Cert.ReferenceIdeal.Facts] [hPre_inputs_in_domain : Cert.Pre_inputs_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_inputs_in_domain : Cert.Pre_inputs_in_domain.Facts),
    quiescent_Kernel (hKernel := hKernel)
    ∧ quiescent_KernelIdeal (hKernelIdeal := hKernelIdeal)
    ∧ quiescent_KernelIdeal_pre_inputs_in_domain (hKernelIdeal := hKernelIdeal) (hPre_inputs_in_domain := hPre_inputs_in_domain)
    ∧ quiescent_ReferenceIdeal (hReferenceIdeal := hReferenceIdeal)
    ∧ quiescent_ReferenceIdeal_pre_inputs_in_domain (hReferenceIdeal := hReferenceIdeal) (hPre_inputs_in_domain := hPre_inputs_in_domain)
    ∧ preserves_Kernel_KernelIdeal
    ∧ algebraic_KernelIdeal_ReferenceIdeal_pre_inputs_in_domain (hKernelIdeal := hKernelIdeal) (hReferenceIdeal := hReferenceIdeal) (hPre_inputs_in_domain := hPre_inputs_in_domain)
-- ==== Pre_inputs_in_domain.lean ====
abbrev S2x2048 : Shape := ⟨2, ![2, 2048]⟩
abbrev S2x2046x20 : Shape := ⟨3, ![2, 2046, 20]⟩
abbrev S26x1024 : Shape := ⟨2, ![26, 1024]⟩
abbrev S20x20x1024 : Shape := ⟨3, ![20, 20, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel
  bcast_S_S2x2046x20 : S_.BroadcastsInDim S2x2046x20 (![] : Fin 0 → Fin S2x2046x20.rank)
  reducesTo_S2x2046x20_S_d0_1_2 : S2x2046x20.ReducesTo [0, 1, 2] S_
  bcast_S_S20x20x1024 : S_.BroadcastsInDim S20x20x1024 (![] : Fin 0 → Fin S20x20x1024.rank)
  reducesTo_S20x20x1024_S_d0_1_2 : S20x20x1024.ReducesTo [0, 1, 2] S_

variable [Facts]

def fn {F : FTy → Type} [FloatOps F] (main_arg0 : IVec S2x2048 32) (main_arg1 : FVec F S2x2046x20 .f32) (main_arg2 : FVec F S26x1024 .f32) (main_arg3 : FVec F S20x20x1024 .f32) (main_arg4 : FVec F S1024 .f32) (main_arg5 : FVec F S1024 .f32) (main_arg6 : FVec F S1024x1024 .f32) (main_arg7 : FVec F S1024 .f32) (main_arg8 : FVec F S1024x1 .f32) (main_arg9 : FVec F S1 .f32) : IVec S_ 1 :=
  let main_c : IVec S_ 32 := constantI S_ 32 0#32
  let main_v0 : IVec S2x2048 32 := broadcastInDim S2x2048 ![] bcast_S_S2x2048 main_c
  let main_v1 : IVec S2x2048 1 := cmpi .sge main_arg0 main_v0
  let main_c_0 : IVec S_ 1 := constantI S_ 1 1#1
  let main_v2 : IVec S_ 1 := (fun x v => Host.reduce IntOp.andi x v reducesTo_S2x2048_S_d0_1 h_S_) main_v1 main_c_0
  let main_cst : FVec F S_ .f32 := constant S_ .f32 0x00000000#32
  let main_v3 : FVec F S2x2046x20 .f32 := broadcastInDim S2x2046x20 ![] bcast_S_S2x2046x20 main_cst
  let main_v4 : IVec S2x2046x20 1 := cmpf .oge main_arg1 main_v3
  let main_c_1 : IVec S_ 1 := constantI S_ 1 1#1
  let main_v5 : IVec S_ 1 := (fun x v => Host.reduce IntOp.andi x v reducesTo_S2x2046x20_S_d0_1_2 h_S_) main_v4 main_c_1
  let main_cst_2 : FVec F S_ .f32 := constant S_ .f32 0x7F800000#32
  let main_v6 : FVec F S20x20x1024 .f32 := broadcastInDim S20x20x1024 ![] bcast_S_S20x20x1024 main_cst_2
  let main_v7 : IVec S20x20x1024 1 := cmpf .olt main_arg3 main_v6
  let main_cst_3 : FVec F S_ .f32 := constant S_ .f32 0xFF800000#32
  let main_v8 : FVec F S20x20x1024 .f32 := broadcastInDim S20x20x1024 ![] bcast_S_S20x20x1024 main_cst_3
  let main_v9 : IVec S20x20x1024 1 := cmpf .ogt main_arg3 main_v8
  let main_v10 : IVec S20x20x1024 1 := andi main_v7 main_v9
  let main_c_4 : IVec S_ 1 := constantI S_ 1 1#1
  let main_v11 : IVec S_ 1 := (fun x v => Host.reduce IntOp.andi x v reducesTo_S20x20x1024_S_d0_1_2 h_S_) main_v10 main_c_4
  let main_v12 : IVec S_ 1 := ori main_v5 main_v11
  let main_v13 : IVec S_ 1 := andi main_v2 main_v12
  main_v13
-- ==== Kernel.lean ====
abbrev S2x2048 : Shape := ⟨2, ![2, 2048]⟩
abbrev S2x2046x20 : Shape := ⟨3, ![2, 2046, 20]⟩
abbrev S26x1024 : Shape := ⟨2, ![26, 1024]⟩
abbrev S20x20x1024 : Shape := ⟨3, ![20, 20, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S4096x1 : Shape := ⟨2, ![4096, 1]⟩
abbrev S_ : Shape := ⟨0, ![]⟩
abbrev S2x2048x20 : Shape := ⟨3, ![2, 2048, 20]⟩
abbrev S4096x20 : Shape := ⟨2, ![4096, 20]⟩
abbrev S400x1024 : Shape := ⟨2, ![400, 1024]⟩
abbrev S1x1024 : Shape := ⟨2, ![1, 1024]⟩
abbrev S1x1 : Shape := ⟨2, ![1, 1]⟩
abbrev S4096x1024 : Shape := ⟨2, ![4096, 1024]⟩
abbrev S1024x20 : Shape := ⟨2, ![1024, 20]⟩
abbrev S512x1024 : Shape := ⟨2, ![512, 1024]⟩
abbrev S512x128 : Shape := ⟨2, ![512, 128]⟩
abbrev S86x1024 : Shape := ⟨2, ![86, 1024]⟩
abbrev S512 : Shape := ⟨1, ![512]⟩
abbrev S512x1 : Shape := ⟨2, ![512, 1]⟩
abbrev S1024x512 : Shape := ⟨2, ![1024, 512]⟩
abbrev S20x512 : Shape := ⟨2, ![20, 512]⟩
abbrev S1024x128 : Shape := ⟨2, ![1024, 128]⟩
abbrev S2x2048x1024 : Shape := ⟨3, ![2, 2048, 1024]⟩

abbrev nBuf : Space → Nat
  | .hbm => 24
  | .vmem => 16
  | .smem => 0
  | _ => 0

abbrev bufTy : (tb : Table) → Fin (tcTables nBuf tb) → BufTy
  | .hbm, ⟨0, _⟩ => ⟨S2x2048, .i32⟩
  | .hbm, ⟨1, _⟩ => ⟨S2x2046x20, .f32⟩
  | .hbm, ⟨2, _⟩ => ⟨S26x1024, .f32⟩
  | .hbm, ⟨3, _⟩ => ⟨S20x20x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1, .f32⟩
  | .hbm, ⟨9, _⟩ => ⟨S1, .f32⟩
  | .hbm, ⟨10, _⟩ => ⟨S4096x1, .i32⟩
  | .hbm, ⟨11, _⟩ => ⟨S_, .f32⟩
  | .hbm, ⟨12, _⟩ => ⟨S2x2048x20, .f32⟩
  | .hbm, ⟨13, _⟩ => ⟨S_, .i32⟩
  | .hbm, ⟨14, _⟩ => ⟨S1, .i32⟩
  | .hbm, ⟨15, _⟩ => ⟨S2x2048x20, .f32⟩
  | .hbm, ⟨16, _⟩ => ⟨S4096x20, .f32⟩
  | .hbm, ⟨17, _⟩ => ⟨S400x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1, .f32⟩
  | .hbm, ⟨22, _⟩ => ⟨S4096x1024, .f32⟩
  | .hbm, ⟨23, _⟩ => ⟨S2x2048x1024, .f32⟩
  | .local _ .vmem, ⟨0, _⟩ => ⟨S1024x1, .i32⟩
  | .local _ .vmem, ⟨1, _⟩ => ⟨S1024x1, .i32⟩
  | .local _ .vmem, ⟨2, _⟩ => ⟨S1024x20, .f32⟩
  | .local _ .vmem, ⟨3, _⟩ => ⟨S1024x20, .f32⟩
  | .local _ .vmem, ⟨4, _⟩ => ⟨S400x1024, .f32⟩
  | .local _ .vmem, ⟨5, _⟩ => ⟨S26x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1, .f32⟩
  | .local _ .vmem, ⟨11, _⟩ => ⟨S1x1, .f32⟩
  | .local _ .vmem, ⟨12, _⟩ => ⟨S1024x1024, .f32⟩
  | .local _ .vmem, ⟨13, _⟩ => ⟨S1024x1024, .f32⟩
  | .local _ .vmem, ⟨14, _⟩ => ⟨S512x1024, .f32⟩
  | .local _ .vmem, ⟨15, _⟩ => ⟨S512x128, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S400x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S26x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S2x2048 : Shape := ⟨2, ![2, 2048]⟩
abbrev S2x2046x20 : Shape := ⟨3, ![2, 2046, 20]⟩
abbrev S26x1024 : Shape := ⟨2, ![26, 1024]⟩
abbrev S20x20x1024 : Shape := ⟨3, ![20, 20, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩
abbrev S2x2048x1 : Shape := ⟨3, ![2, 2048, 1]⟩
abbrev S1x1x1 : Shape := ⟨3, ![1, 1, 1]⟩
abbrev S2x2048x1024 : Shape := ⟨3, ![2, 2048, 1024]⟩
abbrev S2x2048x2 : Shape := ⟨3, ![2, 2048, 2]⟩
abbrev S2x2048x20x1024 : Shape := ⟨4, ![2, 2048, 20, 1024]⟩
abbrev S2x2048x20 : Shape := ⟨3, ![2, 2048, 20]⟩
abbrev S2x2048x20x1 : Shape := ⟨4, ![2, 2048, 20, 1]⟩
abbrev S1x1x1024 : Shape := ⟨3, ![1, 1, 1024]⟩
abbrev S2048 : Shape := ⟨1, ![2048]⟩
abbrev S1x2048 : Shape := ⟨2, ![1, 2048]⟩

abbrev nBuf : Space → Nat
  | .hbm => 244
  | .vmem => 0
  | .smem => 0
  | _ => 0

abbrev hbmTy0_0 (i : Nat) : BufTy := match i % 128 with
  | 0 => ⟨S2x2048, .i32⟩
  | 1 => ⟨S2x2046x20, .f32⟩
  | 2 => ⟨S26x1024, .f32⟩
  | 3 => ⟨S20x20x1024, .f32⟩
  | 4 => ⟨S1024, .f32⟩
  | 5 => ⟨S1024, .f32⟩
  | 6 => ⟨S1024x1024, .f32⟩
  | 7 => ⟨S1024, .f32⟩
  | 8 => ⟨S1024x1, .f32⟩
  | 9 => ⟨S1, .f32⟩
  | 10 => ⟨S_, .i32⟩
  | 11 => ⟨S2x2048, .i32⟩
  | 12 => ⟨S2x2048, .i1⟩
  | 13 => ⟨S_, .i32⟩
  | 14 => ⟨S_, .i32⟩
  | 15 => ⟨S2x2048, .i32⟩
  | 16 => ⟨S2x2048, .i32⟩
  | 17 => ⟨S_, .i32⟩
  | 18 => ⟨S2x2048, .i32⟩
  | 19 => ⟨S2x2048, .i1⟩
  | 20 => ⟨S_, .i32⟩
  | 21 => ⟨S2x2048, .i32⟩
  | 22 => ⟨S2x2048, .i32⟩
  | 23 => ⟨S2x2048, .i32⟩
  | 24 => ⟨S2x2048x1, .i32⟩
  | 25 => ⟨S1, .i32⟩
  | 26 => ⟨S_, .i32⟩
  | 27 => ⟨S2x2048x1, .i32⟩
  | 28 => ⟨S2x2048x1, .i1⟩
  | 29 => ⟨S1x1x1, .i32⟩
  | 30 => ⟨S2x2048x1, .i32⟩
  | 31 => ⟨S2x2048x1, .i1⟩
  | 32 => ⟨S2x2048x1, .i1⟩
  | 33 => ⟨S_, .i1⟩
  | 34 => ⟨S2x2048, .i1⟩
  | 35 => ⟨S2x2048x1024, .f32⟩
  | 36 => ⟨S2x2048x1024, .i1⟩
  | 37 => ⟨S_, .f32⟩
  | 38 => ⟨S2x2048x1024, .f32⟩
  | 39 => ⟨S2x2048x1024, .f32⟩
  | 40 => ⟨S_, .i32⟩
  | 41 => ⟨S2x2048, .i32⟩
  | 42 => ⟨S2x2048, .i32⟩
  | 43 => ⟨S_, .i32⟩
  | 44 => ⟨S_, .i32⟩
  | 45 => ⟨S_, .i32⟩
  | 46 => ⟨S2x2048, .i32⟩
  | 47 => ⟨S2x2048, .i32⟩
  | 48 => ⟨S_, .i32⟩
  | 49 => ⟨S2x2048, .i32⟩
  | 50 => ⟨S2x2048, .i32⟩
  | 51 => ⟨S_, .i32⟩
  | 52 => ⟨S_, .i32⟩
  | 53 => ⟨S2x2048, .i32⟩
  | 54 => ⟨S2x2048, .i32⟩
  | 55 => ⟨S2x2048, .i32⟩
  | 56 => ⟨S_, .i32⟩
  | 57 => ⟨S2x2048, .i32⟩
  | 58 => ⟨S2x2048, .i1⟩
  | 59 => ⟨S2x2048, .i32⟩
  | 60 => ⟨S2x2048, .i32⟩
  | 61 => ⟨S_, .i32⟩
  | 62 => ⟨S2x2048, .i32⟩
  | 63 => ⟨S2x2048, .i1⟩
  | 64 => ⟨S2x2048, .i1⟩
  | 65 => ⟨S_, .i32⟩
  | 66 => ⟨S2x2048, .i32⟩
  | 67 => ⟨S2x2048, .i32⟩
  | 68 => ⟨S2x2048, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S2x2048, .i32⟩
  | 76 => ⟨S2x2048, .i32⟩
  | 77 => ⟨S_, .i32⟩
  | 78 => ⟨S2x2048, .i32⟩
  | 79 => ⟨S2x2048, .i1⟩
  | 80 => ⟨S_, .i32⟩
  | 81 => ⟨S2x2048, .i32⟩
  | 82 => ⟨S2x2048, .i1⟩
  | 83 => ⟨S_, .i32⟩
  | 84 => ⟨S_, .i1⟩
  | 85 => ⟨S2x2048, .i1⟩
  | 86 => ⟨S2x2048, .i1⟩
  | 87 => ⟨S2x2048, .i1⟩
  | 88 => ⟨S2x2048, .i32⟩
  | 89 => ⟨S2x2048, .i32⟩
  | 90 => ⟨S2x2048, .i32⟩
  | 91 => ⟨S_, .i32⟩
  | 92 => ⟨S2x2048, .i32⟩
  | 93 => ⟨S2x2048, .i1⟩
  | 94 => ⟨S_, .i32⟩
  | 95 => ⟨S2x2048, .i32⟩
  | 96 => ⟨S2x2048, .i32⟩
  | 97 => ⟨S2x2048, .i32⟩
  | 98 => ⟨S_, .i32⟩
  | 99 => ⟨S2x2048, .i32⟩
  | 100 => ⟨S2x2048, .i1⟩
  | 101 => ⟨S_, .i32⟩
  | 102 => ⟨S2x2048, .i32⟩
  | 103 => ⟨S2x2048, .i32⟩
  | 104 => ⟨S2x2048, .i32⟩
  | 105 => ⟨S2x2048x1, .i32⟩
  | 106 => ⟨S2x2048x1, .i32⟩
  | 107 => ⟨S2x2048x2, .i32⟩
  | 108 => ⟨S2x2048x1024, .f32⟩
  | 109 => ⟨S_, .i32⟩
  | 110 => ⟨S2x2048, .i32⟩
  | 111 => ⟨S2x2048, .i1⟩
  | 112 => ⟨S_, .i32⟩
  | 113 => ⟨S2x2048, .i32⟩
  | 114 => ⟨S2x2048, .i32⟩
  | 115 => ⟨S2x2048, .i32⟩
  | 116 => ⟨S2x2048x1, .i32⟩
  | 117 => ⟨S1, .i32⟩
  | 118 => ⟨S_, .i32⟩
  | 119 => ⟨S2x2048x1, .i32⟩
  | 120 => ⟨S2x2048x1, .i1⟩
  | 121 => ⟨S1x1x1, .i32⟩
  | 122 => ⟨S2x2048x1, .i32⟩
  | 123 => ⟨S2x2048x1, .i1⟩
  | 124 => ⟨S2x2048x1, .i1⟩
  | 125 => ⟨S_, .i1⟩
  | 126 => ⟨S2x2048, .i1⟩
  | 127 => ⟨S2x2048x20x1024, .f32⟩
  | _ => ⟨S2x2048, .i32⟩

abbrev hbmTy0_1 (i : Nat) : BufTy := match i % 128 with
  | 0 => ⟨S2x2048x20x1024, .i1⟩
  | 1 => ⟨S_, .f32⟩
  | 2 => ⟨S2x2048x20x1024, .f32⟩
  | 3 => ⟨S2x2048x20x1024, .f32⟩
  | 4 => ⟨S_, .f32⟩
  | 5 => ⟨S2x2048x20, .f32⟩
  | 6 => ⟨S_, .i32⟩
  | 7 => ⟨S1, .i32⟩
  | 8 => ⟨S2x2048x20, .f32⟩
  | 9 => ⟨S2x2048x20x1, .f32⟩
  | 10 => ⟨S2x2048x20x1024, .f32⟩
  | 11 => ⟨S2x2048x20x1024, .f32⟩
  | 12 => ⟨S_, .f32⟩
  | 13 => ⟨S2x2048x1024, .f32⟩
  | 14 => ⟨S_, .f32⟩
  | 15 => ⟨S2x2048, .f32⟩
  | 16 => ⟨S2x2048x1, .f32⟩
  | 17 => ⟨S_, .f32⟩
  | 18 => ⟨S2x2048x1, .f32⟩
  | 19 => ⟨S2x2048x1, .f32⟩
  | 20 => ⟨S_, .i32⟩
  | 21 => ⟨S_, .f32⟩
  | 22 => ⟨S2x2048, .f32⟩
  | 23 => ⟨S2x2048x1, .f32⟩
  | 24 => ⟨S_, .f32⟩
  | 25 => ⟨S2x2048x1, .f32⟩
  | 26 => ⟨S2x2048x1, .f32⟩
  | 27 => ⟨S2x2048x1024, .f32⟩
  | 28 => ⟨S2x2048x1024, .f32⟩
  | 29 => ⟨S2x2048x1024, .f32⟩
  | 30 => ⟨S_, .f32⟩
  | 31 => ⟨S_, .f32⟩
  | 32 => ⟨S_, .f32⟩
  | 33 => ⟨S_, .f32⟩
  | 34 => ⟨S2x2048, .f32⟩
  | 35 => ⟨S2x2048x1, .f32⟩
  | 36 => ⟨S2x2048x1, .f32⟩
  | 37 => ⟨S2x2048x1, .f32⟩
  | 38 => ⟨S_, .f32⟩
  | 39 => ⟨S_, .i1⟩
  | 40 => ⟨S_, .f32⟩
  | 41 => ⟨S_, .f32⟩
  | 42 => ⟨S2x2048x1, .f32⟩
  | 43 => ⟨S2x2048x1, .f32⟩
  | 44 => ⟨S2x2048x1024, .f32⟩
  | 45 => ⟨S2x2048x1024, .f32⟩
  | 46 => ⟨S_, .f32⟩
  | 47 => ⟨S2x2048x1, .f32⟩
  | 48 => ⟨S2x2048x1, .f32⟩
  | 49 => ⟨S2x2048x1, .f32⟩
  | 50 => ⟨S2x2048x1024, .f32⟩
  | 51 => ⟨S2x2048x1024, .f32⟩
  | 52 => ⟨S1x1x1024, .f32⟩
  | 53 => ⟨S2x2048x1024, .f32⟩
  | 54 => ⟨S2x2048x1024, .f32⟩
  | 55 => ⟨S1x1x1024, .f32⟩
  | 56 => ⟨S2x2048x1024, .f32⟩
  | 57 => ⟨S2x2048x1024, .f32⟩
  | 58 => ⟨S2x2048x1024, .f32⟩
  | 59 => ⟨S1x1x1024, .f32⟩
  | 60 => ⟨S2x2048x1024, .f32⟩
  | 61 => ⟨S2x2048x1024, .f32⟩
  | 62 => ⟨S_, .f32⟩
  | 63 => ⟨S2x2048x1024, .f32⟩
  | 64 => ⟨S2x2048x1024, .f32⟩
  | 65 => ⟨S_, .f32⟩
  | 66 => ⟨S_, .f32⟩
  | 67 => ⟨S2x2048x1024, .f32⟩
  | 68 => ⟨S2x2048x1024, .f32⟩
  | 69 => ⟨S2x2048x1024, .f32⟩
  | 70 => ⟨S_, .f32⟩
  | 71 => ⟨S2x2048x1024, .f32⟩
  | 72 => ⟨S2x2048x1024, .f32⟩
  | 73 => ⟨S2x2048x1024, .f32⟩
  | 74 => ⟨S2x2048x1, .f32⟩
  | 75 => ⟨S1x1x1, .f32⟩
  | 76 => ⟨S2x2048x1, .f32⟩
  | 77 => ⟨S2x2048x1, .f32⟩
  | 78 => ⟨S2x2048x1, .f32⟩
  | 79 => ⟨S2x2048x1, .f32⟩
  | 80 => ⟨S_, .f32⟩
  | 81 => ⟨S2x2048x1, .f32⟩
  | 82 => ⟨S2x2048x1, .f32⟩
  | 83 => ⟨S_, .f32⟩
  | 84 => ⟨S2x2048x1, .f32⟩
  | 85 => ⟨S2x2048x1, .f32⟩
  | 86 => ⟨S2x2048x1024, .f32⟩
  | 87 => ⟨S2x2048x1024, .f32⟩
  | 88 => ⟨S_, .f32⟩
  | 89 => ⟨S2x2048x1, .f32⟩
  | 90 => ⟨S2x2048x1, .f32⟩
  | 91 => ⟨S2x2048x1024, .f32⟩
  | 92 => ⟨S2x2048x1024, .f32⟩
  | 93 => ⟨S2x2048x1024, .f32⟩
  | 94 => ⟨S2048, .i32⟩
  | 95 => ⟨S2x2048, .i1⟩
  | 96 => ⟨S_, .i32⟩
  | 97 => ⟨S2048, .i32⟩
  | 98 => ⟨S2048, .i1⟩
  | 99 => ⟨S1x2048, .i1⟩
  | 100 => ⟨S2x2048, .i1⟩
  | 101 => ⟨S2x2048, .i1⟩
  | 102 => ⟨S_, .i32⟩
  | 103 => ⟨S2048, .i32⟩
  | 104 => ⟨S2048, .i1⟩
  | 105 => ⟨S1x2048, .i1⟩
  | 106 => ⟨S2x2048, .i1⟩
  | 107 => ⟨S2x2048, .i1⟩
  | 108 => ⟨S2x2048x1, .i1⟩
  | 109 => ⟨S2x2048x1, .i1⟩
  | 110 => ⟨S_, .f32⟩
  | 111 => ⟨S2x2048x1024, .i1⟩
  | 112 => ⟨S2x2048x1024, .f32⟩
  | 113 => ⟨S2x2048x1024, .f32⟩
  | 114 => ⟨S2x2048x1024, .i1⟩
  | 115 => ⟨S2x2048x1024, .f32⟩
  | _ => ⟨S2x2048, .i32⟩

abbrev hbmTy (i : Nat) : BufTy := match i / 128 with
  | 0 => hbmTy0_0 i
  | 1 => hbmTy0_1 i
  | _ => ⟨S2x2048, .i32⟩

abbrev bufTy : (tb : Table) → Fin (tcTables nBuf tb) → BufTy
  | .hbm, ⟨i, _⟩ => hbmTy i
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_v2 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v3 : Ref sig .tc := ⟨.hbm, 39, rfl⟩
abbrev main_c_1 : Ref sig .tc := ⟨.hbm, 40, rfl⟩
abbrev main_v4 : Ref sig .tc := ⟨.hbm, 41, rfl⟩
abbrev main_v5 : Ref sig .tc := ⟨.hbm, 42, rfl⟩
abbrev main_c_2 : Ref sig .tc := ⟨.hbm, 43, rfl⟩
abbrev main_c_3 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v6 : Ref sig .tc := ⟨.hbm, 50, rfl⟩
abbrev main_c_4 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_c : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_0 : Ref sig .tc := ⟨.hbm, 65, rfl⟩
abbrev main_call3_v12 : Ref sig .tc := ⟨.hbm, 66, rfl⟩
abbrev main_call3_v13 : Ref sig .tc := ⟨.hbm, 67, rfl⟩
abbrev main_v7 : Ref sig .tc := ⟨.hbm, 68, rfl⟩
abbrev main_c_5 : Ref sig .tc := ⟨.hbm, 69, rfl⟩
abbrev main_call4_v0 : Ref sig .tc := ⟨.hbm, 70, rfl⟩
abbrev main_call4_c : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_c_1 : Ref sig .tc := ⟨.hbm, 77, rfl⟩
abbrev main_call4_v5 : Ref sig .tc := ⟨.hbm, 78, rfl⟩
abbrev main_call4_v6 : Ref sig .tc := ⟨.hbm, 79, rfl⟩
abbrev main_call4_c_2 : Ref sig .tc := ⟨.hbm, 80, rfl⟩
abbrev main_call4_v7 : Ref sig .tc := ⟨.hbm, 81, rfl⟩
abbrev main_call4_v8 : Ref sig .tc := ⟨.hbm, 82, rfl⟩
abbrev main_call4_c_3 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_v12 : Ref sig .tc := ⟨.hbm, 87, rfl⟩
abbrev main_call4_v13 : Ref sig .tc := ⟨.hbm, 88, rfl⟩
abbrev main_call4_v14 : Ref sig .tc := ⟨.hbm, 89, rfl⟩
abbrev main_v8 : Ref sig .tc := ⟨.hbm, 90, rfl⟩
abbrev main_c_6 : Ref sig .tc := ⟨.hbm, 91, rfl⟩
abbrev main_v9 : Ref sig .tc := ⟨.hbm, 92, rfl⟩
abbrev main_v10 : Ref sig .tc := ⟨.hbm, 93, rfl⟩
abbrev main_c_7 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_c_8 : Ref sig .tc := ⟨.hbm, 98, rfl⟩
abbrev main_v14 : Ref sig .tc := ⟨.hbm, 99, rfl⟩
abbrev main_v15 : Ref sig .tc := ⟨.hbm, 100, rfl⟩
abbrev main_c_9 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_call5_c : Ref sig .tc := ⟨.hbm, 109, rfl⟩
abbrev main_call5_v0 : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_c_1 : Ref sig .tc := ⟨.hbm, 117, rfl⟩
abbrev main_call5_c_2 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_c_3 : Ref sig .tc := ⟨.hbm, 125, rfl⟩
abbrev main_call5_v12 : Ref sig .tc := ⟨.hbm, 126, rfl⟩
abbrev main_call5_v13 : Ref sig .tc := ⟨.hbm, 127, rfl⟩
abbrev main_call5_v14 : Ref sig .tc := ⟨.hbm, 128, rfl⟩
abbrev main_call5_cst : Ref sig .tc := ⟨.hbm, 129, rfl⟩
abbrev main_call5_v15 : Ref sig .tc := ⟨.hbm, 130, rfl⟩
abbrev main_v23 : Ref sig .tc := ⟨.hbm, 131, rfl⟩
abbrev main_cst : Ref sig .tc := ⟨.hbm, 132, rfl⟩
abbrev main_v24 : Ref sig .tc := ⟨.hbm, 133, rfl⟩
abbrev main_c_10 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_cst_11 : Ref sig .tc := ⟨.hbm, 140, rfl⟩
abbrev main_v30 : Ref sig .tc := ⟨.hbm, 141, rfl⟩
abbrev main_cst_12 : Ref sig .tc := ⟨.hbm, 142, rfl⟩
abbrev main_v31 : Ref sig .tc := ⟨.hbm, 143, rfl⟩
abbrev main_v32 : Ref sig .tc := ⟨.hbm, 144, rfl⟩
abbrev main_cst_13 : Ref sig .tc := ⟨.hbm, 145, rfl⟩
abbrev main_v33 : Ref sig .tc := ⟨.hbm, 146, rfl⟩
abbrev main_v34 : Ref sig .tc := ⟨.hbm, 147, rfl⟩
abbrev main_c_14 : Ref sig .tc := ⟨.hbm, 148, rfl⟩
abbrev main_call6_cst : Ref sig .tc := ⟨.hbm, 149, rfl⟩
abbrev main_call6_v0 : Ref sig .tc := ⟨.hbm, 150, rfl⟩
abbrev main_call6_v1 : Ref sig .tc := ⟨.hbm, 151, rfl⟩
abbrev main_call6_cst_0 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_call6_v5 : Ref sig .tc := ⟨.hbm, 156, rfl⟩
abbrev main_call6_v6 : Ref sig .tc := ⟨.hbm, 157, rfl⟩
abbrev main_call6_v7 : Ref sig .tc := ⟨.hbm, 158, rfl⟩
abbrev main_call6_cst_1 : Ref sig .tc := ⟨.hbm, 159, rfl⟩
abbrev main_call6_v8 : Ref sig .tc := ⟨.hbm, 160, rfl⟩
abbrev main_call6_cst_2 : Ref sig .tc := ⟨.hbm, 161, rfl⟩
abbrev main_call6_v9 : Ref sig .tc := ⟨.hbm, 162, rfl⟩
abbrev main_call6_v10 : Ref sig .tc := ⟨.hbm, 163, rfl⟩
abbrev main_call6_v11 : Ref sig .tc := ⟨.hbm, 164, rfl⟩
abbrev main_call6_v12 : Ref sig .tc := ⟨.hbm, 165, rfl⟩
abbrev main_call6_cst_3 : Ref sig .tc := ⟨.hbm, 166, rfl⟩
abbrev main_call6_v13 : Ref sig .tc := ⟨.hbm, 167, rfl⟩
abbrev main_call6_cst_4 : Ref sig .tc := ⟨.hbm, 168, rfl⟩
abbrev main_call6_call0_v0 : Ref sig .tc := ⟨.hbm, 169, rfl⟩
abbrev main_call6_call0_v1 : Ref sig .tc := ⟨.hbm, 170, rfl⟩
abbrev main_v35 : Ref sig .tc := ⟨.hbm, 171, rfl⟩
abbrev main_v36 : Ref sig .tc := ⟨.hbm, 172, rfl⟩
abbrev main_v37 : Ref sig .tc := ⟨.hbm, 173, rfl⟩
abbrev main_cst_15 : Ref sig .tc := ⟨.hbm, 174, rfl⟩
abbrev main_v38 : Ref sig .tc := ⟨.hbm, 175, rfl⟩
abbrev main_v39 : Ref sig .tc := ⟨.hbm, 176, rfl⟩
abbrev main_v40 : Ref sig .tc := ⟨.hbm, 177, rfl⟩
abbrev main_v41 : Ref sig .tc := ⟨.hbm, 178, rfl⟩
abbrev main_v42 : Ref sig .tc := ⟨.hbm, 179, rfl⟩
abbrev main_v43 : Ref sig .tc := ⟨.hbm, 180, rfl⟩
abbrev main_v44 : Ref sig .tc := ⟨.hbm, 181, rfl⟩
abbrev main_v45 : Ref sig .tc := ⟨.hbm, 182, rfl⟩
abbrev main_v46 : Ref sig .tc := ⟨.hbm, 183, rfl⟩
abbrev main_v47 : Ref sig .tc := ⟨.hbm, 184, rfl⟩
abbrev main_v48 : Ref sig .tc := ⟨.hbm, 185, rfl⟩
abbrev main_v49 : Ref sig .tc := ⟨.hbm, 186, rfl⟩
abbrev main_v50 : Ref sig .tc := ⟨.hbm, 187, rfl⟩
abbrev main_v51 : Ref sig .tc := ⟨.hbm, 188, rfl⟩
abbrev main_v52 : Ref sig .tc := ⟨.hbm, 189, rfl⟩
abbrev main_cst_16 : Ref sig .tc := ⟨.hbm, 190, rfl⟩
abbrev main_v53 : Ref sig .tc := ⟨.hbm, 191, rfl⟩
abbrev main_v54 : Ref sig .tc := ⟨.hbm, 192, rfl⟩
abbrev main_cst_17 : Ref sig .tc := ⟨.hbm, 193, rfl⟩
abbrev main_v55 : Ref sig .tc := ⟨.hbm, 194, rfl⟩
abbrev main_v56 : Ref sig .tc := ⟨.hbm, 195, rfl⟩
abbrev main_v57 : Ref sig .tc := ⟨.hbm, 196, rfl⟩
abbrev main_v58 : Ref sig .tc := ⟨.hbm, 197, rfl⟩
abbrev main_cst_18 : Ref sig .tc := ⟨.hbm, 198, rfl⟩
abbrev main_v59 : Ref sig .tc := ⟨.hbm, 199, rfl⟩
abbrev main_v60 : Ref sig .tc := ⟨.hbm, 200, rfl⟩
abbrev main_v61 : Ref sig .tc := ⟨.hbm, 201, rfl⟩
abbrev main_v62 : Ref sig .tc := ⟨.hbm, 202, rfl⟩
abbrev main_v63 : Ref sig .tc := ⟨.hbm, 203, rfl⟩
abbrev main_v64 : Ref sig .tc := ⟨.hbm, 204, rfl⟩
abbrev main_v65 : Ref sig .tc := ⟨.hbm, 205, rfl⟩
abbrev main_v66 : Ref sig .tc := ⟨.hbm, 206, rfl⟩
abbrev main_v67 : Ref sig .tc := ⟨.hbm, 207, rfl⟩
abbrev main_cst_19 : Ref sig .tc := ⟨.hbm, 208, rfl⟩
abbrev main_v68 : Ref sig .tc := ⟨.hbm, 209, rfl⟩
abbrev main_v69 : Ref sig .tc := ⟨.hbm, 210, rfl⟩
abbrev main_cst_20 : Ref sig .tc := ⟨.hbm, 211, rfl⟩
abbrev main_v70 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_cst_21 : Ref sig .tc := ⟨.hbm, 216, rfl⟩
abbrev main_v74 : Ref sig .tc := ⟨.hbm, 217, rfl⟩
abbrev main_v75 : Ref sig .tc := ⟨.hbm, 218, rfl⟩
abbrev main_v76 : Ref sig .tc := ⟨.hbm, 219, rfl⟩
abbrev main_v77 : Ref sig .tc := ⟨.hbm, 220, rfl⟩
abbrev main_v78 : Ref sig .tc := ⟨.hbm, 221, rfl⟩
abbrev main_v79 : Ref sig .tc := ⟨.hbm, 222, rfl⟩
abbrev main_v80 : Ref sig .tc := ⟨.hbm, 223, rfl⟩
abbrev main_c_22 : Ref sig .tc := ⟨.hbm, 224, rfl⟩
abbrev main_v81 : Ref sig .tc := ⟨.hbm, 225, rfl⟩
abbrev main_v82 : Ref sig .tc := ⟨.hbm, 226, rfl⟩
abbrev main_v83 : Ref sig .tc := ⟨.hbm, 227, rfl⟩
abbrev main_v84 : Ref sig .tc := ⟨.hbm, 228, rfl⟩
abbrev main_v85 : Ref sig .tc := ⟨.hbm, 229, rfl⟩
abbrev main_c_23 : Ref sig .tc := ⟨.hbm, 230, rfl⟩
abbrev main_v86 : Ref sig .tc := ⟨.hbm, 231, rfl⟩
abbrev main_v87 : Ref sig .tc := ⟨.hbm, 232, rfl⟩
abbrev main_v88 : Ref sig .tc := ⟨.hbm, 233, rfl⟩
abbrev main_v89 : Ref sig .tc := ⟨.hbm, 234, rfl⟩
abbrev main_v90 : Ref sig .tc := ⟨.hbm, 235, rfl⟩
abbrev main_v91 : Ref sig .tc := ⟨.hbm, 236, rfl⟩
abbrev main_v92 : Ref sig .tc := ⟨.hbm, 237, rfl⟩
abbrev main_cst_24 : Ref sig .tc := ⟨.hbm, 238, rfl⟩
abbrev main_call7_v0 : Ref sig .tc := ⟨.hbm, 239, rfl⟩
abbrev main_call7_v1 : Ref sig .tc := ⟨.hbm, 240, rfl⟩
abbrev main_v93 : Ref sig .tc := ⟨.hbm, 241, rfl⟩
abbrev main_call8_v0 : Ref sig .tc := ⟨.hbm, 242, rfl⟩
abbrev main_v94 : Ref sig .tc := ⟨.hbm, 243, rfl⟩

abbrev nD : Nat := 1
abbrev τ : Topo := Topo.v7x

variable {F : FTy → Type} [FloatOps F]
-- ==== Proof.Consts.lean ====
/- Hand-written. The float constants that the programs print, as the real numbers that their words denote. -/
module

public import Idealize.ShloMosaic.PureOps.Ideal

@[expose] public section

noncomputable section

namespace Cert.Consts

open Idealize.ShloMosaic

/-- `0.5` denotes one half. -/
theorem ofBits_half : Ideal.ofBits .f32 0x3F000000#32 = ((1 / 2 : ℝ) : EReal) := by
  simp [Ideal.ofBits, Ideal.ieee, -EReal.coe_mul]; norm_num

/-- `2.0` denotes two. -/
theorem ofBits_two : Ideal.ofBits .f32 0x40000000#32 = ((2 : ℝ) : EReal) := by
  simp [Ideal.ofBits, Ideal.ieee, -EReal.coe_mul]; norm_num

/-- `1024.0` denotes 1024. -/
theorem ofBits_1024 : Ideal.ofBits .f32 0x44800000#32 = ((1024 : ℝ) : EReal) := by
  simp [Ideal.ofBits, Ideal.ieee, -EReal.coe_mul]; norm_num

/-- The word of `1e-5` denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The word of plus infinity denotes the top. -/
theorem ofBits_inf : Ideal.ofBits .f32 0x7F800000#32 = (⊤ : EReal) := by
  simp [Ideal.ofBits, Ideal.ieee]

/-- The word of minus infinity denotes the bottom. -/
theorem ofBits_ninf : Ideal.ofBits .f32 0xFF800000#32 = (⊥ : EReal) := by
  simp [Ideal.ofBits, Ideal.ieee]

end Cert.Consts

end
-- ==== Proof.Domain.lean ====
/- Hand-written. The precondition, read at the entries of the arguments. -/
module

public import proofs.«01_k».proof.Defs
public import proofs.«01_k».proof.Proof.Consts
public import Idealize.ShloMosaic.Lib.ReduceAll
public import Idealize.ShloMosaic.Lib.WordCmp
public import Idealize.ShloMosaic.PureOps.Ideal.Laws

@[expose] public section

namespace Cert.Pre_inputs_in_domain

open Idealize Idealize.ShloMosaic

/-- The side conditions of the precondition's operations. -/
instance sideConditions : Facts where
  bcast_S_S2x2048 := by decide
  reducesTo_S2x2048_S_d0_1 := by decide
  h_S_ := by decide
  bcast_S_S2x2046x20 := by decide
  reducesTo_S2x2046x20_S_d0_1_2 := by decide
  bcast_S_S20x20x1024 := by decide
  reducesTo_S20x20x1024_S_d0_1_2 := by decide

/-- The result of the precondition has one index. -/
instance : Subsingleton S_.Idx := ⟨fun a b => funext fun k => k.elim0⟩

/-- A bit that is an `and` and is one has both bits one. -/
theorem and_one : ∀ x y : BitVec 1, IntOp.andi x y = 1#1 → x = 1#1 ∧ y = 1#1 := by decide
/-- A bit that is an `or` and is one has a bit that is one. -/
theorem or_one : ∀ x y : BitVec 1, IntOp.ori x y = 1#1 → x = 1#1 ∨ y = 1#1 := by decide

/-- A truth value whose bit is one holds. -/
theorem ofBool_one : ∀ b : Bool, BitVec.ofBool b = 1#1 → b = true := by decide

/-- Where the precondition holds, no id is negative, and either no entry of `shp_tensor` is negative or no entry of
`full_embed` is an infinity. -/
theorem domain_of (ids : IVec S2x2048 32) (w : FVec Ideal S2x2046x20 .f32) (sp : FVec Ideal S26x1024 .f32)
    (e : FVec Ideal S20x20x1024 .f32) (lw lb : FVec Ideal S1024 .f32) (W1 : FVec Ideal S1024x1024 .f32)
    (b1 : FVec Ideal S1024 .f32) (W2 : FVec Ideal S1024x1 .f32) (b2 : FVec Ideal S1 .f32)
    (h : fn (F := Ideal) ids w sp e lw lb W1 b1 W2 b2 = fun _ => 1#1) :
    (∀ i, (ids i).toNat < 2 ^ 31) ∧ ((∀ i, (0 : EReal) ≤ w i) ∨ ∀ i, (e i : EReal) ≠ ⊤ ∧ (e i : EReal) ≠ ⊥) := by
  have h0 := congrFun h (fun k => k.elim0)
  obtain ⟨h1, h2⟩ := and_one _ _ h0
  constructor
  · intro i
    have hi : IntOp.cmpi .sge (ids i) 0#32 = 1#1 := Host.reduce_andi_all _ _ _ _ _ h1 i
    rw [WordCmp.cmpi_sge_zero] at hi
    exact of_decide_eq_true (ofBool_one _ hi)
  · rcases or_one _ _ h2 with h3 | h3
    · left
      intro i
      have hi := Host.reduce_andi_all _ _ _ _ _ h3 i
      have hi' : BitVec.ofBool (decide (Ideal.ofBits .f32 0#32 ≤ (w i : EReal))) = 1#1 := hi
      have := of_decide_eq_true (ofBool_one _ hi')
      rwa [Ideal.ofBits_zero_f32] at this
    · right
      intro i
      obtain ⟨ha, hb⟩ := and_one _ _ (Host.reduce_andi_all _ _ _ _ _ h3 i)
      have ha' : BitVec.ofBool (decide ((e i : EReal) < Ideal.ofBits .f32 0x7F800000#32)) = 1#1 := ha
      have hb' : BitVec.ofBool (decide (Ideal.ofBits .f32 0xFF800000#32 < (e i : EReal))) = 1#1 := hb
      have ha2 := of_decide_eq_true (ofBool_one _ ha')
      have hb2 := of_decide_eq_true (ofBool_one _ hb')
      rw [Consts.ofBits_inf] at ha2
      rw [Consts.ofBits_ninf] at hb2
      exact ⟨ha2.ne, hb2.ne'⟩

end Cert.Pre_inputs_in_domain

end
-- ==== Proof.Words.lean ====
/- Hand-written. The integer arithmetic on 32-bit words that the two programs do, as arithmetic on natural numbers. -/
module

public import Idealize.ShloMosaic.PureOps.Ideal.Laws
public import Idealize.ShloMosaic.Lib.Pointwise

@[expose] public section

set_option maxRecDepth 16384

noncomputable section

namespace Cert.Embed

open Idealize.ShloMosaic

/-- The row of `full_embed`, counted over all sequences, that an id names: `id - 25`, held between 0 and 399. -/
def regRow (w : BitVec 32) : ℕ := min (w.toNat - 25) 399

/-- A regular row is below 400. -/
theorem regRow_lt (w : BitVec 32) : regRow w < 400 := by unfold regRow; omega

/-- A word that is not negative, as a signed number. -/
theorem toInt_nonneg {w : BitVec 32} (h : w.toNat < 2 ^ 31) : w.toInt = (w.toNat : ℤ) := by
  rw [BitVec.toInt_eq_toNat_cond, if_pos (by omega)]

/-- `id < 25` on words. -/
theorem cmpi_special {w : BitVec 32} (h : w.toNat < 2 ^ 31) :
    IntOp.cmpi .slt w 25#32 = BitVec.ofBool (decide (w.toNat < 25)) := by
  have e : (25#32 : BitVec 32).toInt = 25 := by decide
  simp only [IntOp.cmpi, BitVec.slt, toInt_nonneg h, e]
  congr 1
  exact decide_eq_decide.mpr (by omega)

/-- `clip(id - 25, 0, 399)` on words. -/
theorem clip_word {w : BitVec 32} (h : w.toNat < 2 ^ 31) :
    IntOp.minsi 399#32 (IntOp.maxsi 0#32 (IntOp.subi w 25#32)) = BitVec.ofNat 32 (regRow w) := by
  have e : (w - 25#32).toInt = (w.toNat : ℤ) - 25 := by
    rw [BitVec.toInt_sub, toInt_nonneg h, show (25#32 : BitVec 32).toInt = 25 from by decide, Int.bmod_def]
    split <;> omega
  have e0 : (0#32 : BitVec 32).toInt = 0 := by decide
  have e3 : (399#32 : BitVec 32).toInt = 399 := by decide
  unfold regRow
  show (if (399#32).slt (if (w - 25#32).slt 0#32 then 0#32 else w - 25#32) then 399#32
    else (if (w - 25#32).slt 0#32 then 0#32 else w - 25#32)) = _
  by_cases h1 : w.toNat < 25
  · have hs : (w - 25#32).slt 0#32 = true := by rw [BitVec.slt, e, e0]; exact decide_eq_true (by omega)
    rw [if_pos hs, if_neg (by decide), show min (w.toNat - 25) 399 = 0 by omega]
  · have hs : ¬ (w - 25#32).slt 0#32 = true := by
      rw [BitVec.slt, e, e0]; exact fun hh => by have := of_decide_eq_true hh; omega
    rw [if_neg hs]
    have hn : (w - 25#32).toNat = w.toNat - 25 := by
      rw [BitVec.toNat_sub, show (25#32 : BitVec 32).toNat = 25 from by decide]; omega
    by_cases h2 : 399 < w.toNat - 25
    · rw [if_pos (by rw [BitVec.slt, e, e3]; exact decide_eq_true (by omega)), show min (w.toNat - 25) 399 = 399 by omega]
    · rw [if_neg (by rw [BitVec.slt, e, e3]; exact fun hh => by have := of_decide_eq_true hh; omega),
        show min (w.toNat - 25) 399 = w.toNat - 25 by omega]
      apply BitVec.eq_of_toNat_eq
      rw [hn, BitVec.toNat_ofNat]
      omega

/-- jnp's floor division by 20, as the kernel prints it. -/
def floorDiv20 (u : ArithUnit) (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 20#32 0#32)) (Scalar.extui (Scalar.cmpi .slt 20#32 0#32))))
      (IntOp.cmpi .ne (IntOp.remsi u x 20#32) 0#32))
    (IntOp.subi (IntOp.divsi u x 20#32) 1#32) (IntOp.divsi u x 20#32)

/-- The floor division by 20 of a row of the table, as words. -/
theorem floorDiv20_word : ∀ n : Fin 512, floorDiv20 .vector (BitVec.ofNat 32 n.val) = BitVec.ofNat 32 (n.val / 20) := by
  decide +kernel

/-- jnp's remainder by 20, as the kernel prints it. -/
def mod20 (u : ArithUnit) (x : BitVec 32) : BitVec 32 :=
  Scalar.select
    (IntOp.andi
      (IntOp.xori
        (IntOp.cmpi .slt (IntOp.remsi u x (Scalar.select (Scalar.cmpi .eq 20#32 0#32) 1#32 20#32)) 0#32)
        (Scalar.cmpi .slt (Scalar.select (Scalar.cmpi .eq 20#32 0#32) 1#32 20#32) 0#32))
      (IntOp.cmpi .ne (IntOp.remsi u x (Scalar.select (Scalar.cmpi .eq 20#32 0#32) 1#32 20#32)) 0#32))
    (IntOp.addi (IntOp.remsi u x (Scalar.select (Scalar.cmpi .eq 20#32 0#32) 1#32 20#32))
      (Scalar.select (Scalar.cmpi .eq 20#32 0#32) 1#32 20#32))
    (IntOp.remsi u x (Scalar.select (Scalar.cmpi .eq 20#32 0#32) 1#32 20#32))

/-- The remainder by 20 of a row of the table, as words. -/
theorem mod20_word : ∀ n : Fin 512, mod20 .vector (BitVec.ofNat 32 n.val) = BitVec.ofNat 32 (n.val % 20) := by
  decide +kernel

/-- Whether a row of the kernel's block is a position that is written. -/
theorem written_word : ∀ (b : Fin 4) (r : Fin 1024),
    IntOp.andi
      (IntOp.cmpi .sge (IntOp.remsi .vector
        (IntOp.addi (Scalar.muli (BitVec.ofNat 32 b.val) 1024#32) (BitVec.ofNat 32 r.val)) 2048#32) 1#32)
      (IntOp.cmpi .sle (IntOp.remsi .vector
        (IntOp.addi (Scalar.muli (BitVec.ofNat 32 b.val) 1024#32) (BitVec.ofNat 32 r.val)) 2048#32) 2046#32)
      = BitVec.ofBool (decide (1 ≤ (1024 * b.val + r.val) % 2048 ∧ (1024 * b.val + r.val) % 2048 ≤ 2046)) := by
  decide +kernel

/-- A comparison's bit, widened and converted, is one or zero. -/
theorem bit_real (p : Prop) [Decidable p] :
    FloatOps.sitofp (F := Ideal) .f32 (BitVec.setWidth 32 (BitVec.ofBool (decide p))) = if p then (1 : EReal) else 0 := by
  show ((BitVec.toInt (BitVec.setWidth 32 (BitVec.ofBool (decide p))) : ℝ) : EReal) = _
  by_cases h : p
  · rw [if_pos h, decide_eq_true h, show (BitVec.setWidth 32 (BitVec.ofBool true)).toInt = 1 from by decide, Int.cast_one,
      EReal.coe_one]
  · rw [if_neg h, decide_eq_false h, show (BitVec.setWidth 32 (BitVec.ofBool false)).toInt = 0 from by decide,
      Int.cast_zero, EReal.coe_zero]

/-- Equality of two small numbers' words. -/
theorem cmpi_eq_word {a b : ℕ} (ha : a < 2 ^ 32) (hb : b < 2 ^ 32) :
    IntOp.cmpi .eq (BitVec.ofNat 32 a) (BitVec.ofNat 32 b) = BitVec.ofBool (decide (a = b)) := by
  simp only [IntOp.cmpi]
  by_cases h : a = b
  · subst h; simp
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [decide_eq_false h, beq_eq_false_iff_ne.mpr this]

end Cert.Embed

end
-- ==== Proof.Ref.lean ====
/- Hand-written. The reference's index words and its three row look-ups, each read at one result index. -/
module

public import proofs.«01_k».proof.Proof.Gen.ReferenceIdeal.Run
public import proofs.«01_k».proof.Proof.Words
public import Idealize.ShloMosaic.Lib.Pointwise
public import Idealize.ShloMosaic.Lib.ValueIdx
public import Idealize.ShloMosaic.Lib.ReduceAll

@[expose] public section

set_option maxRecDepth 16384

namespace Cert.ReferenceIdeal.Read

open Idealize.ShloMosaic Idealize.ShloMosaic.TcCoe Idealize.SL.Sem
open Cert.ReferenceIdeal Cert.ReferenceIdeal.Gen Cert.ReferenceIdeal.Value Cert.Embed Idealize.ShloMosaic.StableHlo

/-- The start of a slice that a small word names. -/
theorem start_word (n k : ℕ) (hn : n < 2 ^ 31) (hk : n ≤ k) : min (BitVec.ofNat 32 n).toInt.toNat k = n := by
  have h1 : (BitVec.ofNat 32 n).toNat = n := by rw [BitVec.toNat_ofNat]; omega
  rw [toInt_nonneg (by omega), h1]
  omega

/-- A look-up in the special rows reads the row that the word names. -/
theorem gather_special {α : Type} (x : S26x1024.Idx → α) (idx : IVec S2x2048x1 32) (b : Fin 2) (p : Fin 2048) (k : Fin 1024)
    (w : Fin 26) (h : idx (ix3 b p 0) = BitVec.ofNat 32 w.val) :
    Host.gather gather_S26x1024_S2x2048x1_S2x2048x1024_2_0_n_n_0_2_11024 x idx (ix3 b p k) = x (ix2 w k) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  match a with
  | ⟨0, h0'⟩ =>
    rw [GatherDims.offCoord_eq_zero _ _ _ (fun h => ((GatherDims.mem_sKept _ _).mp h).1 (List.mem_singleton.2 rfl))]
    unfold GatherDims.start
    rw [dif_pos (show (⟨0, h0'⟩ : Fin S26x1024.rank) ∈ gather_S26x1024_S2x2048x1_S2x2048x1024_2_0_n_n_0_2_11024.startIndexMap from List.mem_singleton.2 rfl)]
    refine Eq.trans (congrArg (fun v : BitVec 32 => min v.toInt.toNat 25 + 0 + 0) (Eq.trans (congrArg idx ?_) h)) ?_
    · funext c
      match c with
      | ⟨0, _⟩ => rfl
      | ⟨1, _⟩ => rfl
      | ⟨2, _⟩ => rfl
    · exact start_word w.val 25 (by omega) (by omega)
  | ⟨1, _⟩ =>
    unfold GatherDims.start GatherDims.offCoord
    rw [dif_neg (by decide +revert), dif_pos ((GatherDims.mem_sKept _ _).2 ⟨by decide +revert, List.not_mem_nil⟩)]
    exact Nat.zero_add _

/-- A look-up of a sequence's 20 rows reads the rows of the sequence that the word names. -/
theorem gather_rows {α : Type} (x : S20x20x1024.Idx → α) (idx : IVec S2x2048x1 32) (b : Fin 2) (p : Fin 2048) (s : Fin 20)
    (k : Fin 1024) (w : Fin 20) (h : idx (ix3 b p 0) = BitVec.ofNat 32 w.val) :
    Host.gather gather_S20x20x1024_S2x2048x1_S2x2048x20x1024_23_0_n_n_0_2_1201024 x idx (ix4 b p s k) = x (ix3 w s k) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  match a with
  | ⟨0, h0'⟩ =>
    rw [GatherDims.offCoord_eq_zero _ _ _ (fun h => ((GatherDims.mem_sKept _ _).mp h).1 (List.mem_singleton.2 rfl))]
    unfold GatherDims.start
    rw [dif_pos (show (⟨0, h0'⟩ : Fin S20x20x1024.rank) ∈ gather_S20x20x1024_S2x2048x1_S2x2048x20x1024_23_0_n_n_0_2_1201024.startIndexMap from List.mem_singleton.2 rfl)]
    refine Eq.trans (congrArg (fun v : BitVec 32 => min v.toInt.toNat 19 + 0 + 0) (Eq.trans (congrArg idx ?_) h)) ?_
    · funext c
      match c with
      | ⟨0, _⟩ => rfl
      | ⟨1, _⟩ => rfl
      | ⟨2, _⟩ => rfl
    · exact start_word w.val 19 (by omega) (by omega)
  | ⟨1, _⟩ =>
    unfold GatherDims.start GatherDims.offCoord
    rw [dif_neg (by decide +revert), dif_pos ((GatherDims.mem_sKept _ _).2 ⟨by decide +revert, List.not_mem_nil⟩)]
    exact Nat.zero_add _
  | ⟨2, _⟩ =>
    unfold GatherDims.start GatherDims.offCoord
    rw [dif_neg (by decide +revert), dif_pos ((GatherDims.mem_sKept _ _).2 ⟨by decide +revert, List.not_mem_nil⟩)]
    exact Nat.zero_add _

/-- A look-up of one row by its sequence and its structure reads the row that the two words name. -/
theorem gather_pair {α : Type} (x : S20x20x1024.Idx → α) (idx : IVec S2x2048x2 32) (b : Fin 2) (p : Fin 2048)
    (k : Fin 1024) (w v : Fin 20) (h0 : idx (ix3 b p 0) = BitVec.ofNat 32 w.val) (h1 : idx (ix3 b p 1) = BitVec.ofNat 32 v.val) :
    Host.gather gather_S20x20x1024_S2x2048x2_S2x2048x1024_2_01_n_n_01_2_111024 x idx (ix3 b p k) = x (ix3 w v k) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  match a with
  | ⟨0, h0'⟩ =>
    rw [GatherDims.offCoord_eq_zero _ _ _ (fun h => ((GatherDims.mem_sKept _ _).mp h).1 (List.mem_cons.2 (Or.inl rfl)))]
    unfold GatherDims.start
    rw [dif_pos (show (⟨0, h0'⟩ : Fin S20x20x1024.rank) ∈ gather_S20x20x1024_S2x2048x2_S2x2048x1024_2_01_n_n_01_2_111024.startIndexMap from List.mem_cons.2 (Or.inl rfl))]
    refine Eq.trans (congrArg (fun v : BitVec 32 => min v.toInt.toNat 19 + 0 + 0) (Eq.trans (congrArg idx ?_) h0)) ?_
    · funext c
      match c with
      | ⟨0, _⟩ => rfl
      | ⟨1, _⟩ => rfl
      | ⟨2, _⟩ => rfl
    · exact start_word w.val 19 (by omega) (by omega)
  | ⟨1, h1'⟩ =>
    rw [GatherDims.offCoord_eq_zero _ _ _ (fun h => ((GatherDims.mem_sKept _ _).mp h).1 (List.mem_cons.2 (Or.inr (List.mem_singleton.2 rfl))))]
    unfold GatherDims.start
    rw [dif_pos (show (⟨1, h1'⟩ : Fin S20x20x1024.rank) ∈ gather_S20x20x1024_S2x2048x2_S2x2048x1024_2_01_n_n_01_2_111024.startIndexMap from List.mem_cons.2 (Or.inr (List.mem_singleton.2 rfl)))]
    refine Eq.trans (congrArg (fun v : BitVec 32 => min v.toInt.toNat 19 + 0 + 0) (Eq.trans (congrArg idx ?_) h1)) ?_
    · funext c
      match c with
      | ⟨0, _⟩ => rfl
      | ⟨1, _⟩ => rfl
      | ⟨2, _⟩ => rfl
    · exact start_word v.val 19 (by omega) (by omega)
  | ⟨2, _⟩ =>
    unfold GatherDims.start GatherDims.offCoord
    rw [dif_neg (by decide +revert), dif_pos ((GatherDims.mem_sKept _ _).2 ⟨by decide +revert, List.not_mem_nil⟩)]
    exact Nat.zero_add _

/-- The sign of a word, as a word. -/
abbrev signWord (x : BitVec 32) : BitVec 32 := if x = 0 then 0 else if x.msb then -1 else 1

/-- The host's floor division by 20, on the 400 words that occur. -/
theorem hostDiv_word : ∀ n : Fin 400,
    Scalar.select
      (IntOp.andi
        (IntOp.cmpi .ne (signWord (BitVec.ofNat 32 n.val)) (signWord 20#32))
        (IntOp.cmpi .ne (IntOp.remsi .host (BitVec.ofNat 32 n.val) 20#32) 0#32))
      (IntOp.subi (IntOp.divsi .host (BitVec.ofNat 32 n.val) 20#32) 1#32) (IntOp.divsi .host (BitVec.ofNat 32 n.val) 20#32)
      = BitVec.ofNat 32 (n.val / 20) := by
  decide +kernel

/-- The host's remainder by 20, on the 400 words that occur. -/
theorem hostMod_word : ∀ n : Fin 400,
    Scalar.select
      (IntOp.andi
        (IntOp.cmpi .ne (IntOp.cmpi .slt (IntOp.remsi .host (BitVec.ofNat 32 n.val) 20#32) 0#32) (IntOp.cmpi .slt 20#32 0#32))
        (IntOp.cmpi .ne (IntOp.remsi .host (BitVec.ofNat 32 n.val) 20#32) 0#32))
      (IntOp.addi (IntOp.remsi .host (BitVec.ofNat 32 n.val) 20#32) 20#32)
      (IntOp.remsi .host (BitVec.ofNat 32 n.val) 20#32)
      = BitVec.ofNat 32 (n.val % 20) := by
  decide +kernel

/-- A word below 20 is not wrapped. -/
theorem wrap20 : ∀ n : Fin 20, Scalar.select (IntOp.cmpi .slt (BitVec.ofNat 32 n.val) 0#32)
    (IntOp.addi (BitVec.ofNat 32 n.val) 20#32) (BitVec.ofNat 32 n.val) = BitVec.ofNat 32 n.val := by
  decide +kernel

/-- A word below 26 is not wrapped. -/
theorem wrap26 : ∀ n : Fin 26, Scalar.select (IntOp.cmpi .slt (BitVec.ofNat 32 n.val) 0#32)
    (IntOp.addi (BitVec.ofNat 32 n.val) 26#32) (BitVec.ofNat 32 n.val) = BitVec.ofNat 32 n.val := by
  decide +kernel

variable (V0 : Valuation τ sig (Elt Ideal))

/-- The id of a token. -/
abbrev idAt (b : Fin 2) (p : Fin 2048) : BitVec 32 := V0 (Proc.devRef .tc main_arg0) (ix2 b p)

variable (hid : ∀ b p, (idAt V0 b p).toNat < 2 ^ 31)

include hid

/-- The reference's mask of the special tokens. -/
theorem v1_apply (b : Fin 2) (p : Fin 2048) :
    res_main_v1 V0 (ix2 b p) = BitVec.ofBool (decide ((idAt V0 b p).toNat < 25)) := by
  unfold res_main_v1
  pointwise
  exact cmpi_special (hid b p)

/-- The row among the special ones that the reference looks up. -/
def specRow (w : BitVec 32) : Fin 26 := if h : w.toNat < 25 then ⟨w.toNat, by omega⟩ else 0

/-- The row of the special table that a token looks up, as a word. -/
theorem v2_apply (b : Fin 2) (p : Fin 2048) :
    res_main_v2 V0 (ix2 b p) = BitVec.ofNat 32 (specRow (idAt V0 b p)).val := by
  unfold res_main_v2
  pointwise
  rw [v1_apply V0 hid]
  unfold specRow
  by_cases h : (idAt V0 b p).toNat < 25
  · rw [dif_pos h, decide_eq_true h]
    exact ((BitVec.ofNat_toNat 32 (idAt V0 b p)).trans (BitVec.setWidth_eq _)).symm
  · rw [dif_neg h, decide_eq_false h]
    rfl

/-- The same row after the look-up's own wrapping of negative rows. -/
theorem call1_v5_apply (b : Fin 2) (p : Fin 2048) (k : Fin 1) :
    res_main_call1_v5 V0 (ix3 b p k) = BitVec.ofNat 32 (specRow (idAt V0 b p)).val := by
  unfold res_main_call1_v5
  pointwise
  rw [v2_apply V0 hid]
  exact wrap26 _

/-- The regular row of a token, as a word. -/
theorem v6_apply (b : Fin 2) (p : Fin 2048) : res_main_v6 V0 (ix2 b p) = BitVec.ofNat 32 (regRow (idAt V0 b p)) := by
  unfold res_main_v6
  pointwise
  exact clip_word (hid b p)

/-- The sequence of a token's id. -/
def seqOf (w : BitVec 32) : Fin 20 := ⟨regRow w / 20, by have := regRow_lt w; omega⟩
/-- The structure of a token's id. -/
def structOf (w : BitVec 32) : Fin 20 := ⟨regRow w % 20, Nat.mod_lt _ (by decide)⟩

/-- The sequence of a token, as a word. -/
theorem v7_apply (b : Fin 2) (p : Fin 2048) : res_main_v7 V0 (ix2 b p) = BitVec.ofNat 32 (seqOf (idAt V0 b p)).val := by
  unfold res_main_v7 res_main_call3_v2 res_main_call3_v0
  pointwise
  rw [v6_apply V0 hid]
  exact hostDiv_word ⟨_, regRow_lt _⟩

/-- The structure of a token, as a word. -/
theorem v8_apply (b : Fin 2) (p : Fin 2048) : res_main_v8 V0 (ix2 b p) = BitVec.ofNat 32 (structOf (idAt V0 b p)).val := by
  unfold res_main_v8 res_main_call4_v4 res_main_call4_v2 res_main_call4_v0
  pointwise
  rw [v6_apply V0 hid]
  exact hostMod_word ⟨_, regRow_lt _⟩

/-- The sequence after the look-up's own wrapping of negative rows. -/
theorem call5_v5_apply (b : Fin 2) (p : Fin 2048) (k : Fin 1) :
    res_main_call5_v5 V0 (ix3 b p k) = BitVec.ofNat 32 (seqOf (idAt V0 b p)).val := by
  unfold res_main_call5_v5
  pointwise
  rw [v7_apply V0 hid]
  exact wrap20 _

/-- The token's own row of `full_embed`. -/
theorem v22_apply (b : Fin 2) (p : Fin 2048) (d : Fin 1024) : res_main_v22 V0 (ix3 b p d)
    = V0 (Proc.devRef .tc main_arg3) (ix3 (seqOf (idAt V0 b p)) (structOf (idAt V0 b p)) d) := by
  unfold res_main_v22
  refine gather_pair _ _ b p d _ _ ?_ ?_
  · pointwise
    rw [v7_apply V0 hid]
    exact wrap20 _
  · pointwise
    rw [v8_apply V0 hid]
    exact wrap20 _

end Cert.ReferenceIdeal.Read

end
-- ==== Proof.Pure.lean ====
/- Hand-written. Arithmetic on the extended reals, with no program in it: sums against a one-hot row, the blend that the
   kernel takes as ONE product with a table, and the gate network of one table row (`gateOf`), with the fact that its
   value is a real number between 0 and 1. -/
module

public import Idealize.ShloMosaic.PureOps.Ideal.Laws
public import Idealize.ShloMosaic.Lib.Pointwise.Tactic
public import Mathlib.Data.EReal.Operations
public import Mathlib.Data.EReal.Inv

@[expose] public section

noncomputable section

namespace Cert.Embed

open Idealize.ShloMosaic

/-! ## Sums -/

/-- A sum against a one-hot row is the chosen term, whatever the other terms are. -/
theorem sum_pick {ι : Type} [Fintype ι] [DecidableEq ι] (t : ι) (f : ι → EReal) :
    ∑ k, (if k = t then (1 : EReal) else 0) * f k = f t := by
  simp only [ite_mul, one_mul, zero_mul, Finset.sum_ite_eq', Finset.mem_univ, if_true]

/-- A real factor from zero on goes into a finite sum. -/
theorem mul_sum_real {ι : Type} (s : Finset ι) (g : ℝ) (hg : 0 ≤ g) (f : ι → EReal) :
    (g : EReal) * ∑ i ∈ s, f i = ∑ i ∈ s, (g : EReal) * f i := by
  classical
  induction s using Finset.induction_on with
  | empty => simp
  | insert a s ha ih =>
    rw [Finset.sum_insert ha, Finset.sum_insert ha,
      EReal.left_distrib_of_nonneg_of_ne_top (EReal.coe_nonneg.mpr hg) (EReal.coe_ne_top g), ih]

/-- A real factor of either sign distributes over a sum whose first term is real. -/
theorem add_mul_real (x : ℝ) (z : EReal) (r : ℝ) :
    ((x : EReal) + z) * (r : EReal) = (x : EReal) * r + z * r := by
  rcases le_total 0 r with hr | hr
  · exact EReal.right_distrib_of_nonneg_of_ne_top (EReal.coe_nonneg.mpr hr) (EReal.coe_ne_top r) _ _
  · have hn : (0 : ℝ) ≤ -r := by linarith
    have h := EReal.right_distrib_of_nonneg_of_ne_top (EReal.coe_nonneg.mpr hn) (EReal.coe_ne_top (-r)) (x : EReal) z
    rw [EReal.coe_neg, mul_neg, mul_neg, mul_neg] at h
    have h2 := congrArg (fun y : EReal => -y) h
    simp only [neg_neg] at h2
    rw [h2, EReal.neg_add, neg_neg, sub_eq_add_neg, neg_neg]
    · left; rw [← EReal.coe_mul, ← EReal.coe_neg]; exact EReal.coe_ne_bot _
    · left; rw [← EReal.coe_mul, ← EReal.coe_neg]; exact EReal.coe_ne_top _

/-- The same distribution where both coefficients are from zero on. -/
theorem add_mul_nonneg {x z : EReal} (hx : 0 ≤ x) (hz : 0 ≤ z) (r : EReal) : (x + z) * r = x * r + z * r :=
  EReal.right_distrib_of_nonneg hx hz

/-! ## The blend as one product -/

/-- A special token: its row of the table. -/
theorem blend_special (t : Fin 512) (w tab : Fin 512 → EReal) :
    ∑ k, ((if k = t then (1 : EReal) else 0) * 1 + w k * 0) * tab k = tab t := by
  simp only [mul_one, mul_zero, add_zero]
  exact sum_pick t tab

/-- A position that is not written: zero. -/
theorem blend_none (o w tab : Fin 512 → EReal) : ∑ k, (o k * 0 + w k * 0) * tab k = 0 := by
  simp only [mul_zero, add_zero, zero_mul, Finset.sum_const_zero]

/-- The sum over the 512 table rows of the weights of one sequence's 20 rows is the sum over those rows. -/
theorem sum_window (q : Fin 20) (f : Fin 512 → EReal) :
    ∑ k : Fin 512, (if k.val / 20 = q.val then f k else 0)
      = ∑ s : Fin 20, f ⟨20 * q.val + s.val, by have := q.isLt; have := s.isLt; omega⟩ := by
  rw [← Finset.sum_filter]
  symm
  refine Finset.sum_bij (fun s _ => (⟨20 * q.val + s.val, by have := q.isLt; have := s.isLt; omega⟩ : Fin 512)) ?_ ?_ ?_ ?_
  · intro s _
    simp only [Finset.mem_filter, Finset.mem_univ, true_and]
    have := s.isLt; omega
  · intro a _ b _ h
    have h' := congrArg Fin.val h
    simp only at h'
    exact Fin.ext (by omega)
  · intro k hk
    simp only [Finset.mem_filter, Finset.mem_univ, true_and] at hk
    refine ⟨⟨k.val % 20, by omega⟩, Finset.mem_univ _, ?_⟩
    apply Fin.ext
    show 20 * q.val + k.val % 20 = k.val
    omega
  · intro s _; rfl

/-- A regular token at a written position: the table product with the two groups of weights is the gated blend of the
    weighted sum of the sequence's rows with the token's own row. -/
theorem blend_regular (g : ℝ) (h0 : 0 ≤ g) (h1 : g ≤ 1) (q r : Fin 20) (t : Fin 512) (ht : t.val = 20 * q.val + r.val)
    (sh : Fin 20 → EReal) (tab : Fin 512 → EReal) (Fe : Fin 20 → Fin 20 → EReal)
    (htab : ∀ a b : Fin 20, tab ⟨20 * a.val + b.val, by have := a.isLt; have := b.isLt; omega⟩ = Fe a b)
    (hd : (∀ s, 0 ≤ sh s) ∨ ∀ a b, Fe a b ≠ ⊤ ∧ Fe a b ≠ ⊥) :
    ∑ k : Fin 512, ((if k = t then (1 : EReal) else 0) * (1 - (g : EReal))
        + (sh ⟨k.val % 20, Nat.mod_lt _ (by decide)⟩ * (if k.val / 20 = q.val then (1 : EReal) else 0)) * g) * tab k
      = (g : EReal) * (∑ s, Fe q s * sh s) + (1 - (g : EReal)) * Fe q r := by
  have hone : (1 : EReal) - (g : EReal) = ((1 - g : ℝ) : EReal) := by rw [EReal.coe_sub, EReal.coe_one]
  have hterm : ∀ k : Fin 512, ((if k = t then (1 : EReal) else 0) * (1 - (g : EReal))
        + (sh ⟨k.val % 20, Nat.mod_lt _ (by decide)⟩ * (if k.val / 20 = q.val then (1 : EReal) else 0)) * g) * tab k
      = (if k = t then (1 : EReal) else 0) * ((1 - (g : EReal)) * tab k)
        + (if k.val / 20 = q.val then sh ⟨k.val % 20, Nat.mod_lt _ (by decide)⟩ * g * tab k else 0) := by
    intro k
    by_cases hk : k.val / 20 = q.val
    · rw [if_pos hk, if_pos hk, mul_one]
      have hreal : ∃ x : ℝ, (if k = t then (1 : EReal) else 0) * (1 - (g : EReal)) = (x : EReal) ∧ 0 ≤ x := by
        rw [hone]
        split
        · exact ⟨1 - g, by rw [one_mul], by linarith⟩
        · exact ⟨0, by rw [zero_mul, EReal.coe_zero], le_refl _⟩
      obtain ⟨x, hx, hx0⟩ := hreal
      rw [← mul_assoc, hx]
      rcases hd with hs | hf
      · exact add_mul_nonneg (EReal.coe_nonneg.mpr hx0) (mul_nonneg (hs _) (EReal.coe_nonneg.mpr h0)) _
      · have hk' : tab k = Fe q ⟨k.val % 20, Nat.mod_lt _ (by decide)⟩ := by
          rw [← htab]
          congr 1
          apply Fin.ext
          show k.val = 20 * q.val + k.val % 20
          omega
        obtain ⟨ht1, hb1⟩ := hf q ⟨k.val % 20, Nat.mod_lt _ (by decide)⟩
        rw [hk']
        generalize Fe q _ = y at ht1 hb1 ⊢
        lift y to ℝ using ⟨ht1, hb1⟩
        exact add_mul_real _ _ _
    · rw [if_neg hk, if_neg hk, mul_zero, zero_mul, add_zero, add_zero, mul_assoc]
  rw [Finset.sum_congr rfl fun k _ => hterm k, Finset.sum_add_distrib, sum_pick, sum_window, add_comm]
  congr 1
  · rw [mul_sum_real _ g h0]
    refine Finset.sum_congr rfl fun s _ => ?_
    have e : (⟨(20 * q.val + s.val) % 20, Nat.mod_lt _ (by decide)⟩ : Fin 20) = s :=
      Fin.ext (by show (20 * q.val + s.val) % 20 = s.val; have := s.isLt; omega)
    show sh ⟨(20 * q.val + s.val) % 20, _⟩ * g * _ = _
    rw [e, htab, mul_comm (sh s), mul_assoc, mul_comm (sh s)]
  · congr 1
    rw [← htab]
    congr 1
    exact Fin.ext ht

/-! ## The gate network of one row -/

/-- The mean of a row, by the length that the programs print. -/
def mean (n : EReal) (x : Fin 1024 → EReal) : EReal := Ideal.div (∑ j, x j) n

/-- The mean square distance from the mean. -/
def variance (n : EReal) (x : Fin 1024 → EReal) : EReal := mean n fun j => (x j - mean n x) * (x j - mean n x)

/-- One row normalised, scaled and shifted. -/
def layerNorm (n eps : EReal) (lw lb : Fin 1024 → EReal) (x : Fin 1024 → EReal) (j : Fin 1024) : EReal :=
  Ideal.div (x j - mean n x) (Ideal.sqrt (variance n x + eps)) * lw j + lb j

/-- The exact GELU: half of `x` times one plus the error function at `x` over the root of two. -/
def gelu (half one two : EReal) (x : EReal) : EReal := half * x * (one + Ideal.erf (Ideal.div x (Ideal.sqrt two)))

/-- The gate's argument for a row: normalised, through the two linear layers. -/
def gateArg (n eps half one two : EReal) (lw lb : Fin 1024 → EReal) (W1 : Fin 1024 → Fin 1024 → EReal)
    (b1 : Fin 1024 → EReal) (W2 : Fin 1024 → EReal) (b2 : EReal) (x : Fin 1024 → EReal) : EReal :=
  (∑ k, gelu half one two ((∑ j, layerNorm n eps lw lb x j * W1 j k) + b1 k) * W2 k) + b2

/-- The gate of a row: the logistic function of `gateArg`, at the constants as the programs print them. -/
def gateOf (lw lb : Fin 1024 → EReal) (W1 : Fin 1024 → Fin 1024 → EReal) (b1 : Fin 1024 → EReal)
    (W2 : Fin 1024 → EReal) (b2 : EReal) (x : Fin 1024 → EReal) : EReal :=
  Ideal.div 1 (1 + Ideal.exp (-(gateArg (Ideal.ofBits .f32 0x44800000#32) (Ideal.ofBits .f32 0x3727C5AC#32)
    (Ideal.ofBits .f32 0x3F000000#32) 1 (Ideal.ofBits .f32 0x40000000#32) lw lb W1 b1 W2 b2 x)))

/-- A square is from zero on. -/
theorem square_nonneg (x : EReal) : 0 ≤ x * x := by
  rcases le_total 0 x with h | h
  · exact mul_nonneg h h
  · rw [← neg_mul_neg]
    have : 0 ≤ -x := EReal.neg_nonneg.mpr h
    exact mul_nonneg this this

/-- Dividing by a positive real keeps the sign. -/
theorem div_nonneg_real {x : EReal} (hx : 0 ≤ x) {n : ℝ} (hn : 0 < n) : 0 ≤ Ideal.div x (n : EReal) := by
  unfold Ideal.div
  rw [if_neg (by exact_mod_cast hn.ne'), ← EReal.coe_inv]
  exact mul_nonneg hx (EReal.coe_nonneg.mpr (inv_nonneg.mpr hn.le))

/-- The variance is from zero on. -/
theorem variance_nonneg {n : ℝ} (hn : 0 < n) (x : Fin 1024 → EReal) : 0 ≤ variance n x :=
  div_nonneg_real (Finset.sum_nonneg fun _ _ => square_nonneg _) hn

/-- Dividing by the root of `v + eps` is multiplying by the reciprocal root, for `v` from zero on and `eps` positive. -/
theorem div_sqrt {v : EReal} (hv : 0 ≤ v) {eps : ℝ} (he : 0 < eps) (x : EReal) :
    Ideal.div x (Ideal.sqrt (v + eps)) = x * Ideal.rsqrt (v + eps) := by
  induction v using EReal.rec with
  | bot => exact absurd hv (by simp)
  | top =>
    have h : (⊤ : EReal) + (eps : EReal) = ⊤ := EReal.top_add_coe eps
    rw [h, Ideal.rsqrt_top, Ideal.sqrt_top, mul_zero]
    unfold Ideal.div
    rw [if_neg EReal.top_ne_zero, EReal.inv_top, mul_zero]
  | coe r =>
    have hr : 0 ≤ r := EReal.coe_nonneg.mp hv
    have hp : 0 < r + eps := by linarith
    rw [← EReal.coe_add]
    have hs : Real.sqrt (r + eps) ≠ 0 := (Real.sqrt_pos.mpr hp).ne'
    rw [Ideal.sqrt_coe, Ideal.rsqrt_coe, if_neg (not_lt.mpr hp.le), if_neg (not_lt.mpr hp.le), if_neg hp.ne',
      Ideal.div_coe hs, one_div]

/-- The logistic function's value is a real number between 0 and 1. -/
theorem sigmoid_real (x : EReal) : ∃ g : ℝ, 0 ≤ g ∧ g ≤ 1 ∧ Ideal.div 1 (1 + Ideal.exp (-x)) = (g : EReal) := by
  have key : ∀ y : EReal, 0 ≤ y → ∃ g : ℝ, 0 ≤ g ∧ g ≤ 1 ∧ Ideal.div 1 (1 + y) = (g : EReal) := by
    intro y hy
    induction y using EReal.rec with
    | bot => exact absurd hy (by simp)
    | top =>
      refine ⟨0, le_refl _, zero_le_one, ?_⟩
      have h : (1 : EReal) + ⊤ = ⊤ := EReal.coe_add_top 1
      unfold Ideal.div
      rw [h, if_neg EReal.top_ne_zero, EReal.inv_top, mul_zero, EReal.coe_zero]
    | coe r =>
      have hr : 0 ≤ r := EReal.coe_nonneg.mp hy
      have hp : (0 : ℝ) < 1 + r := by linarith
      refine ⟨1 / (1 + r), by positivity, by rw [div_le_one hp]; linarith, ?_⟩
      rw [← EReal.coe_one, ← EReal.coe_add, Ideal.div_coe hp.ne', EReal.coe_one, one_mul]
  apply key
  generalize -x = y
  induction y using EReal.rec with
  | bot => rw [Ideal.exp_bot]
  | top => rw [Ideal.exp_top]; exact le_top
  | coe r => rw [Ideal.exp_coe]; exact EReal.coe_nonneg.mpr (Real.exp_pos r).le

/-- A gate is a real number between 0 and 1. -/
theorem gateOf_real (lw lb : Fin 1024 → EReal) (W1 : Fin 1024 → Fin 1024 → EReal) (b1 : Fin 1024 → EReal)
    (W2 : Fin 1024 → EReal) (b2 : EReal) (x : Fin 1024 → EReal) :
    ∃ g : ℝ, 0 ≤ g ∧ g ≤ 1 ∧ gateOf lw lb W1 b1 W2 b2 x = (g : EReal) := sigmoid_real _

end Cert.Embed

end
-- ==== Proof.RefGate.lean ====
/- Hand-written. The reference's gate, and the masks of its look-ups, read at one token. -/
module

public import proofs.«01_k».proof.Proof.Ref
public import proofs.«01_k».proof.Proof.Pure
public import proofs.«01_k».proof.Proof.Consts

@[expose] public section

set_option maxRecDepth 16384

namespace Cert.ReferenceIdeal.Read

open Idealize.ShloMosaic Idealize.ShloMosaic.TcCoe Idealize.SL.Sem
open Cert.ReferenceIdeal Cert.ReferenceIdeal.Gen Cert.ReferenceIdeal.Value Cert.Embed Idealize.ShloMosaic.StableHlo

variable (V0 : Valuation τ sig (Elt Ideal))

/-- The reference's row look-up at a token, as a row. -/
noncomputable abbrev rowAt (b : Fin 2) (p : Fin 2048) : Fin 1024 → EReal := fun x => res_main_v22 V0 (ix3 b p x)

/-- The reference's divisor of the variance is the row's length. -/
theorem count_eq : (Ideal.ofBits .f32 0x44800000#32 - FloatOps.sitofp (F := Ideal) .f32 0#32 : EReal)
    = Ideal.ofBits .f32 0x44800000#32 := by
  show Ideal.ofBits .f32 0x44800000#32 - (((0#32 : BitVec 32).toInt : ℝ) : EReal) = _
  rw [show (0#32 : BitVec 32).toInt = 0 from by decide, Int.cast_zero, EReal.coe_zero, sub_zero]

/-- The first linear layer of the gate at a token. -/
theorem v52_apply (b : Fin 2) (p : Fin 2048) (d : Fin 1024) : res_main_v52 V0 (ix3 b p d)
    = @HAdd.hAdd EReal EReal EReal _ (∑ j, layerNorm (Ideal.ofBits .f32 0x44800000#32) (Ideal.ofBits .f32 0x3727C5AC#32)
        (fun j => V0 (Proc.devRef .tc main_arg4) (ix1 j)) (fun j => V0 (Proc.devRef .tc main_arg5) (ix1 j)) (rowAt V0 b p) j
        * V0 (Proc.devRef .tc main_arg6) (ix2 j d)) (V0 (Proc.devRef .tc main_arg7) (ix1 d)) := by
  unfold res_main_v52 res_main_call6_v5 res_main_call6_v8
  pointwise
  rw [count_eq]
  have h : (0 : EReal) < Ideal.ofBits .f32 0x44800000#32 := by
    rw [Cert.Consts.ofBits_1024]; exact_mod_cast (by norm_num : (0 : ℝ) < 1024)
  simp only [h, if_true]
  rfl

/-- The gate at a token is the gate of the token's row. -/
theorem v71_apply (b : Fin 2) (p : Fin 2048) : res_main_v71 V0 (ix3 b p 0)
    = gateOf (fun j => V0 (Proc.devRef .tc main_arg4) (ix1 j)) (fun j => V0 (Proc.devRef .tc main_arg5) (ix1 j))
        (fun j k => V0 (Proc.devRef .tc main_arg6) (ix2 j k)) (fun k => V0 (Proc.devRef .tc main_arg7) (ix1 k))
        (fun k => V0 (Proc.devRef .tc main_arg8) (ix2 k 0)) (V0 (Proc.devRef .tc main_arg9) (ix1 0)) (rowAt V0 b p) := by
  unfold res_main_v71
  pointwise
  simp only [v52_apply]
  rfl

end Cert.ReferenceIdeal.Read

end
-- ==== Proof.RefValue.lean ====
/- Hand-written. The reference's result at one token and column. -/
module

public import proofs.«01_k».proof.Proof.RefGate

@[expose] public section

set_option maxRecDepth 16384

namespace Cert.ReferenceIdeal.Read

open Idealize.ShloMosaic Idealize.ShloMosaic.TcCoe Idealize.SL.Sem
open Cert.ReferenceIdeal Cert.ReferenceIdeal.Gen Cert.ReferenceIdeal.Value Cert.Embed Idealize.ShloMosaic.StableHlo

variable (V0 : Valuation τ sig (Elt Ideal))

/-- The structure weights, in an array of zeros at the positions that are written. -/
noncomputable def weights : Vec Ideal S2x2048x20 .f32 :=
  Host.scatter scatter_S2x2048x20_S1_S2x2046x20_012_n_1_0 (fun _ (b : EReal) => b)
    (broadcastInDim S2x2048x20 ![] bcast_S_S2x2048x20 (constant (F := Ideal) S_ FTy.f32 0#32))
    (broadcastInDim S1 ![] bcast_S_S1 (constantI S_ 32 1#32)) (V0 (Proc.devRef .tc main_arg1))

/-- A fold of ones by `and` is one. -/
theorem fold_one {ι : Type} (S : Finset ι) (f : ι → BitVec 1) (h : ∀ i, f i = 1#1) :
    Finset.fold IntOp.andi (1#1) f S = 1#1 := by
  classical
  induction S using Finset.induction_on with
  | empty => rfl
  | insert a s ha ih => rw [Finset.fold_insert ha, ih, h]; rfl

/-- The range test of a look-up in 26 rows holds of the row that is looked up. -/
theorem range26 : ∀ n : Fin 26, IntOp.andi (IntOp.cmpi .sge (BitVec.ofNat 32 n.val) 0#32)
    (IntOp.cmpi .sle (BitVec.ofNat 32 n.val) 25#32) = 1#1 := by
  decide +kernel

/-- The range test of a look-up in 20 rows holds of the row that is looked up. -/
theorem range20 : ∀ n : Fin 20, IntOp.andi (IntOp.cmpi .sge (BitVec.ofNat 32 n.val) 0#32)
    (IntOp.cmpi .sle (BitVec.ofNat 32 n.val) 19#32) = 1#1 := by
  decide +kernel

/-- The positions that the reference writes. -/
theorem position_word : ∀ p : Fin 2048, IntOp.cmpi .sge (BitVec.ofNat 32 p.val) 1#32 = BitVec.ofBool (decide (1 ≤ p.val))
    ∧ IntOp.cmpi .sle (BitVec.ofNat 32 p.val) 2046#32 = BitVec.ofBool (decide (p.val ≤ 2046)) := by
  decide +kernel

/-- The position of a token, as a word. -/
theorem v79_apply (p : Fin 2048) : res_main_v79 V0 (ix1 p) = BitVec.ofNat 32 p.val := by
  unfold res_main_v79
  pointwise

/-- A choice by "not x, and y, and z" on words. -/
theorem select_three (x y z : Prop) [Decidable x] [Decidable y] [Decidable z] (u v w : EReal) :
    Scalar.select (BitVec.ofBool (decide x)) u (Scalar.select
      (IntOp.andi (IntOp.andi (~~~BitVec.ofBool (decide x)) (BitVec.ofBool (decide y))) (BitVec.ofBool (decide z))) v w)
      = if x then u else if y ∧ z then v else w := by
  by_cases hx : x <;> by_cases hy : y <;> by_cases hz : z <;>
    simp only [hx, hy, hz, decide_true, decide_false, if_true, if_false, and_true, and_false, true_and, false_and] <;> rfl

/-- A choice by a bit that is one. -/
theorem select_bit_one {α : Type} (u v : α) : Scalar.select 1#1 u v = u := rfl

/-- The gate that the reference gives a row. -/
noncomputable def refGate (x : Fin 1024 → EReal) : EReal :=
  gateOf (fun j => V0 (Proc.devRef .tc main_arg4) (ix1 j)) (fun j => V0 (Proc.devRef .tc main_arg5) (ix1 j))
        (fun j k => V0 (Proc.devRef .tc main_arg6) (ix2 j k)) (fun k => V0 (Proc.devRef .tc main_arg7) (ix1 k))
        (fun k => V0 (Proc.devRef .tc main_arg8) (ix2 k 0)) (V0 (Proc.devRef .tc main_arg9) (ix1 0)) x

/-- An entry of `full_embed`. -/
noncomputable abbrev embAt (q r : Fin 20) (d : Fin 1024) : EReal := V0 (Proc.devRef .tc main_arg3) (ix3 q r d)

/-- One entry of the reference's result: the special row of a special token; inside the written positions the blend of
    the weighted sum of the sequence's rows and the token's own row; else zero. -/
theorem ref_apply (hid : ∀ b p, (idAt V0 b p).toNat < 2 ^ 31) (b : Fin 2) (p : Fin 2048) (d : Fin 1024) :
    val3 V0 (Proc.devRef .tc main_v94) (ix3 b p d)
      = if (idAt V0 b p).toNat < 25 then V0 (Proc.devRef .tc main_arg2) (ix2 (specRow (idAt V0 b p)) d)
        else if 1 ≤ p.val ∧ p.val ≤ 2046 then
          @HAdd.hAdd EReal EReal EReal _
            (refGate V0 (embAt V0 (seqOf (idAt V0 b p)) (structOf (idAt V0 b p)))
              * ∑ s, embAt V0 (seqOf (idAt V0 b p)) s d * weights V0 (ix3 b p s))
            ((1 - refGate V0 (embAt V0 (seqOf (idAt V0 b p)) (structOf (idAt V0 b p))))
              * embAt V0 (seqOf (idAt V0 b p)) (structOf (idAt V0 b p)) d)
        else (0 : EReal) := by
  have h1 : ∀ x, IntOp.andi (IntOp.cmpi .sge (res_main_call1_v5 V0 x) 0#32) (IntOp.cmpi .sle (res_main_call1_v5 V0 x) 25#32)
      = 1#1 := fun x => by
    rw [(congrArg (res_main_call1_v5 V0) (eq_ix3 x)).trans (call1_v5_apply V0 hid (x 0) (x 1) (x 2))]; exact range26 _
  have h5 : ∀ x, IntOp.andi (IntOp.cmpi .sge (res_main_call5_v5 V0 x) 0#32) (IntOp.cmpi .sle (res_main_call5_v5 V0 x) 19#32)
      = 1#1 := fun x => by
    rw [(congrArg (res_main_call5_v5 V0) (eq_ix3 x)).trans (call5_v5_apply V0 hid (x 0) (x 1) (x 2))]; exact range20 _
  have hg : res_main_v71 V0 (ix3 b p 0) = refGate V0 (embAt V0 (seqOf (idAt V0 b p)) (structOf (idAt V0 b p))) := by
    rw [v71_apply]
    exact congrArg (refGate V0) (funext fun x => v22_apply V0 hid b p x)
  rw [val3_main_v94]
  pointwise
  rw [show Host.scatter _ _ _ _ _ = weights V0 from rfl]
  simp only [fold_one _ _ h1, fold_one _ _ h5, select_bit_one, hg, v1_apply V0 hid, v79_apply, (position_word p).1, (position_word p).2]
  refine (select_three _ _ _ _ _ _).trans ?_
  rw [gather_special _ _ b p d _ (call1_v5_apply V0 hid b p 0), v22_apply V0 hid]
  simp only [gather_rows _ _ b p _ d _ (call5_v5_apply V0 hid b p 0)]

end Cert.ReferenceIdeal.Read

end
-- ==== Proof.Payload.lean ====
/- Hand-written. What the kernel's stored values are at an index: the gate column of the table (`gate_col`), and one row
   of the output block (`out_apply`). -/
module

public import proofs.«01_k».proof.Proof.Gen.KernelIdeal.Skeleton
public import proofs.«01_k».proof.Proof.Pure
public import proofs.«01_k».proof.Proof.Consts
public import proofs.«01_k».proof.Proof.Words
public import Idealize.ShloMosaic.Lib.Pointwise
public import Idealize.ShloMosaic.Lib.ValueIdx

@[expose] public section

set_option maxRecDepth 16384

noncomputable section

namespace Cert.KernelIdeal.Body

open Cert.KernelIdeal Cert.KernelIdeal.Gen Cert.Embed Idealize.ShloMosaic

/-- The kernel's named constant denotes the inverse root of two. -/
theorem inv_sqrt2 :
    Named.named (F := Ideal) κ "inv_sqrt2" (φ := .f32) 0x3F3504F3#32 = (((Real.sqrt 2)⁻¹ : ℝ) : EReal) :=
  IdealRules.named_const.ideal_named_scalar _ _ _ _ rfl

/-- The kernel's layer norm at an entry, as the quotient by the root. -/
theorem norm_apply (tab : Vec Ideal S512x1024 .f32) (lw lb : Vec Ideal S1x1024 .f32) (r : Fin 512) (j : Fin 1024) :
    @HAdd.hAdd EReal EReal EReal _ (k0_pay4 (F := Ideal) tab lw (ix2 r j)) (lb (ix2 0 j))
      = layerNorm (Ideal.ofBits .f32 0x44800000#32) (Ideal.ofBits .f32 0x3727C5AC#32) (fun j => lw (ix2 0 j))
          (fun j => lb (ix2 0 j)) (fun j => tab (ix2 r j)) j := by
  unfold k0_pay4
  pointwise
  obtain ⟨e, he, hb⟩ := Cert.Consts.ofBits_eps
  unfold layerNorm
  rw [hb, Cert.Consts.ofBits_1024, div_sqrt (variance_nonneg (by norm_num) _) he]
  rfl

/-- The kernel's GELU at a value, as the formula with the quotient by the root of two. -/
theorem gelu_eq (x : EReal) :
    Ideal.ofBits .f32 0x3F000000#32 * x
        * (1 + Ideal.erf (x * Named.named (F := Ideal) κ "inv_sqrt2" (φ := .f32) 0x3F3504F3#32))
      = gelu (Ideal.ofBits .f32 0x3F000000#32) 1 (Ideal.ofBits .f32 0x40000000#32) x := by
  have h2 : Real.sqrt 2 ≠ 0 := (Real.sqrt_pos.mpr (by norm_num)).ne'
  unfold gelu
  rw [inv_sqrt2, Cert.Consts.ofBits_two, Ideal.sqrt_coe, if_neg (by norm_num), Ideal.div_coe h2, one_div]

/-- Every entry of a row of the gate column is the gate of the table's row. -/
theorem gate_col (tab : Vec Ideal S512x1024 .f32) (lw lb : Vec Ideal S1x1024 .f32) (W1 : Vec Ideal S1024x1024 .f32)
    (b1 : Vec Ideal S1x1024 .f32) (W2 : Vec Ideal S1024x1 .f32) (b2 : Vec Ideal S1x1 .f32) (r : Fin 512) (l : Fin 128) :
    k0_pay5 (F := Ideal) (k0_pay4 tab lw) lb W1 b1 W2 b2 (ix2 r l)
      = gateOf (fun j => lw (ix2 0 j)) (fun j => lb (ix2 0 j)) (fun j k => W1 (ix2 j k)) (fun k => b1 (ix2 0 k))
          (fun k => W2 (ix2 k 0)) (b2 (ix2 0 0)) (fun j => tab (ix2 r j)) := by
  unfold k0_pay5
  pointwise
  simp only [norm_apply]
  unfold gateOf gateArg
  simp only [← gelu_eq]
  rfl

/-- The table row that a token reads: 400 + id for a special id, else the regular row. -/
def tgtRow (w : BitVec 32) : Fin 512 :=
  ⟨if w.toNat < 25 then 400 + w.toNat else regRow w, by have := regRow_lt w; split <;> omega⟩

/-- The token's row on words. -/
theorem tgt_apply (ids : Vec Ideal S1024x1 .i32) (r : Fin 1024) (hw : (ids (ix2 r 0)).toNat < 2 ^ 31) :
    k0_pay10 (F := Ideal) ids (ix2 r 0) = BitVec.ofNat 32 (tgtRow (ids (ix2 r 0))).val := by
  unfold k0_pay10 k0_pay9 k0_pay8 k0_pay6
  pointwise
  rw [cmpi_special hw, clip_word hw]
  unfold tgtRow
  generalize ids (ix2 r 0) = w at *
  by_cases h : w.toNat < 25
  · simp only [h, decide_true, if_true]
    show IntOp.addi 400#32 w = _
    apply BitVec.eq_of_toNat_eq
    show (400#32 + w).toNat = _
    rw [BitVec.toNat_add, BitVec.toNat_ofNat, BitVec.toNat_ofNat]
  · simp only [h, decide_false, if_false]
    rfl

/-- The one-hot row of a token. -/
theorem osel_apply (ids : Vec Ideal S1024x1 .i32) (r : Fin 1024) (k : Fin 512) (hw : (ids (ix2 r 0)).toNat < 2 ^ 31) :
    k0_pay14 (F := Ideal) (k0_pay10 (F := Ideal) ids) (ix2 r k) = if k = tgtRow (ids (ix2 r 0)) then 1 else 0 := by
  unfold k0_pay14
  pointwise
  rw [tgt_apply ids r hw, cmpi_eq_word (by omega) (by omega), bit_real]
  simp only [Fin.ext_iff]

/-- The mask of the rows of a token's sequence. -/
theorem mask_apply (ids : Vec Ideal S1024x1 .i32) (r : Fin 1024) (k : Fin 512) (hw : (ids (ix2 r 0)).toNat < 2 ^ 31) :
    k0_pay15 (F := Ideal) (k0_pay11 (F := Ideal) ids) (k0_pay12 (F := Ideal) ids) k0_pay13 (ix2 r k)
      = if k.val / 20 = regRow (ids (ix2 r 0)) / 20 then 1 else 0 := by
  unfold k0_pay15 k0_pay11 k0_pay12 k0_pay13 k0_pay9 k0_pay6
  pointwise
  rw [clip_word hw]
  have h1 := floorDiv20_word k
  have h2 := floorDiv20_word ⟨regRow (ids (ix2 r 0)), lt_trans (regRow_lt _) (by decide)⟩
  unfold floorDiv20 at h1 h2
  dsimp only at h1 h2
  rw [h1, h2, cmpi_eq_word (by omega) (by have := regRow_lt (ids (ix2 r 0)); omega), bit_real]

/-- The token's structure weights laid along the table's rows. -/
theorem tiled_sum (f : Fin 20 → EReal) (k : Fin 512) :
    ∑ s : Fin 20, f s * FloatOps.sitofp (F := Ideal) .f32
        (BitVec.setWidth 32 (IntOp.cmpi .eq (mod20 .vector (BitVec.ofNat 32 k.val)) (BitVec.ofNat 32 s.val)))
      = f ⟨k.val % 20, Nat.mod_lt _ (by decide)⟩ := by
  rw [mod20_word]
  have : ∀ s : Fin 20, f s * FloatOps.sitofp (F := Ideal) .f32
        (BitVec.setWidth 32 (IntOp.cmpi .eq (BitVec.ofNat 32 (k.val % 20)) (BitVec.ofNat 32 s.val)))
      = (if s = ⟨k.val % 20, Nat.mod_lt _ (by decide)⟩ then (1 : EReal) else 0) * f s := by
    intro s
    rw [cmpi_eq_word (by omega) (by omega), bit_real, mul_comm]
    congr 1
    simp only [Fin.ext_iff, eq_comm]
  rw [Finset.sum_congr rfl fun s _ => this s, sum_pick]

/-- A choice by the word of a proposition. -/
theorem select_prop (p : Prop) [Decidable p] (a b : EReal) :
    Scalar.select (BitVec.ofBool (decide p)) a b = if p then a else b := by
  by_cases h : p
  · simp only [h, decide_true, if_true]; rfl
  · simp only [h, decide_false, if_false]; rfl

/-- One entry of the output block, the groups of weights and the gate given by their values. -/
theorem out_sum (b : Fin 4) (shp : FVec Ideal S1024x20 .f32) (v8 : IVec S1024x1 1)
    (osel mask : FVec Ideal S1024x512 .f32) (gcol : Vec Ideal S512x128 .f32) (tab : Vec Ideal S512x1024 .f32)
    (r d : Fin 1024) (t : Fin 512) (ho : ∀ k, osel (ix2 r k) = if k = t then (1 : EReal) else 0) :
    k0_pay20 (F := Ideal) (BitVec.ofNat 32 b.val) shp v8 osel mask (iota .tc S20x512 32 [0] iota_S20x512_d0_w32)
        (Scalar.select (Scalar.cmpi .eq 20#32 0#32) 1#32 20#32) k0_pay16 k0_pay17 k0_pay18 k0_pay19 gcol tab (ix2 r d)
      = ∑ k : Fin 512, ((if k = t then (1 : EReal) else 0)
            * Scalar.select (v8 (ix2 r 0)) 1
                (if 1 ≤ (1024 * b.val + r.val) % 2048 ∧ (1024 * b.val + r.val) % 2048 ≤ 2046
                  then 1 - gcol (ix2 t 0) else 0)
          + Scalar.select (IntOp.andi (IntOp.xori (v8 (ix2 r 0)) 1#1) (BitVec.ofBool (decide
                (1 ≤ (1024 * b.val + r.val) % 2048 ∧ (1024 * b.val + r.val) % 2048 ≤ 2046))))
              (shp (ix2 r ⟨k.val % 20, Nat.mod_lt _ (by decide)⟩) * mask (ix2 r k) * gcol (ix2 t 0)) 0)
          * tab (ix2 k d) := by
  unfold k0_pay20 k0_pay17 k0_pay18 k0_pay19 k0_pay16
  have ht := fun k => tiled_sum (fun s => shp (ix2 r s)) k
  unfold mod20 at ht
  pointwise
  simp only [ho, sum_pick, written_word, ht, select_prop]

/-- A choice by "not p, and q" on words. -/
theorem select_not_and (p q : Prop) [Decidable p] [Decidable q] (a b : EReal) :
    Scalar.select (IntOp.andi (IntOp.xori (BitVec.ofBool (decide p)) 1#1) (BitVec.ofBool (decide q))) a b
      = if p then b else if q then a else b := by
  by_cases h : p <;> by_cases h' : q <;> simp only [h, h', decide_true, decide_false, if_true, if_false] <;> rfl

/-- One entry of the output block: the special row; inside the written positions the blend of the shape embedding and
    the token's own row; else zero. -/
theorem out_apply (b : Fin 4) (ids : Vec Ideal S1024x1 .i32) (shp : Vec Ideal S1024x20 .f32)
    (gcol : Vec Ideal S512x128 .f32) (tab : Vec Ideal S512x1024 .f32) (r d : Fin 1024)
    (hw : (ids (ix2 r 0)).toNat < 2 ^ 31) (g : Fin 512 → ℝ) (hg : ∀ k, gcol (ix2 k 0) = (g k : EReal))
    (hg0 : ∀ k, 0 ≤ g k) (hg1 : ∀ k, g k ≤ 1) (Fe : Fin 20 → Fin 20 → EReal)
    (htab : ∀ a c : Fin 20, tab (ix2 ⟨20 * a.val + c.val, by omega⟩ d) = Fe a c)
    (hd : (∀ s, 0 ≤ shp (ix2 r s)) ∨ ∀ a c, Fe a c ≠ ⊤ ∧ Fe a c ≠ ⊥) :
    k0_pay20 (F := Ideal) (BitVec.ofNat 32 b.val) (k0_pay7 (F := Ideal) shp) (k0_pay8 (F := Ideal) ids)
        (k0_pay14 (F := Ideal) (k0_pay10 (F := Ideal) ids))
        (k0_pay15 (F := Ideal) (k0_pay11 (F := Ideal) ids) (k0_pay12 (F := Ideal) ids) k0_pay13)
        (iota .tc S20x512 32 [0] iota_S20x512_d0_w32)
        (Scalar.select (Scalar.cmpi .eq 20#32 0#32) 1#32 20#32) k0_pay16 k0_pay17 k0_pay18 k0_pay19 gcol tab (ix2 r d)
      = if h : (ids (ix2 r 0)).toNat < 25 then tab (ix2 ⟨400 + (ids (ix2 r 0)).toNat, by omega⟩ d)
        else if 1 ≤ (1024 * b.val + r.val) % 2048 ∧ (1024 * b.val + r.val) % 2048 ≤ 2046 then
          gcol (ix2 ⟨regRow (ids (ix2 r 0)), lt_trans (regRow_lt _) (by decide)⟩ 0)
              * (∑ s, Fe ⟨regRow (ids (ix2 r 0)) / 20, by have := regRow_lt (ids (ix2 r 0)); omega⟩ s * shp (ix2 r s))
            + (1 - gcol (ix2 ⟨regRow (ids (ix2 r 0)), lt_trans (regRow_lt _) (by decide)⟩ 0))
              * Fe ⟨regRow (ids (ix2 r 0)) / 20, by have := regRow_lt (ids (ix2 r 0)); omega⟩
                  ⟨regRow (ids (ix2 r 0)) % 20, Nat.mod_lt _ (by decide)⟩
        else 0 := by
  have h8 : k0_pay8 (F := Ideal) ids (ix2 r 0) = BitVec.ofBool (decide ((ids (ix2 r 0)).toNat < 25)) := by
    unfold k0_pay8 k0_pay6
    pointwise
    exact cmpi_special hw
  have h7 : ∀ s, k0_pay7 (F := Ideal) shp (ix2 r s) = shp (ix2 r s) := fun s => by
    unfold k0_pay7
    pointwise
  rw [out_sum b _ _ _ _ gcol tab r d (tgtRow (ids (ix2 r 0))) (fun k => osel_apply ids r k hw)]
  simp only [h8, h7, mask_apply ids r _ hw, select_prop, select_not_and]
  by_cases h : (ids (ix2 r 0)).toNat < 25
  · have ht : tgtRow (ids (ix2 r 0)) = ⟨400 + (ids (ix2 r 0)).toNat, by omega⟩ := Fin.ext (if_pos h)
    have hb := blend_special ⟨400 + (ids (ix2 r 0)).toNat, by omega⟩ (fun _ => 0) (fun k => tab (ix2 k d))
    simp only [zero_mul] at hb
    simp only [h, if_true, dif_pos, ht]
    exact hb
  · have ht : tgtRow (ids (ix2 r 0)) = ⟨regRow (ids (ix2 r 0)), lt_trans (regRow_lt _) (by decide)⟩ := Fin.ext (if_neg h)
    simp only [h, if_false, dif_neg, not_false_iff, ht]
    by_cases hp : 1 ≤ (1024 * b.val + r.val) % 2048 ∧ (1024 * b.val + r.val) % 2048 ≤ 2046
    · rw [hg]
      simp only [hp, and_self, if_true]
      exact blend_regular (g ⟨regRow (ids (ix2 r 0)), lt_trans (regRow_lt _) (by decide)⟩) (hg0 _) (hg1 _)
          ⟨regRow (ids (ix2 r 0)) / 20, by have := regRow_lt (ids (ix2 r 0)); omega⟩
          ⟨regRow (ids (ix2 r 0)) % 20, Nat.mod_lt _ (by decide)⟩
          ⟨regRow (ids (ix2 r 0)), lt_trans (regRow_lt _) (by decide)⟩ (Nat.div_add_mod _ 20).symm
          (fun s => shp (ix2 r s)) (fun k => tab (ix2 k d)) Fe htab hd
    · have hb := blend_none (fun k => if k = (⟨regRow (ids (ix2 r 0)), lt_trans (regRow_lt _) (by decide)⟩ : Fin 512)
        then 1 else 0) (fun _ => 0) (fun k => tab (ix2 k d))
      simp only [zero_mul] at hb
      simp only [hp, if_false]
      exact hb

end Cert.KernelIdeal.Body
end
-- ==== Proof.Body.lean ====
/- Hand-written. The kernel's region: the table and the gate column that its first point leaves in the scratch arrays, the
   blocks that its points read, and the result array after the last point (`arr_out`). -/
module

public import proofs.«01_k».proof.Proof.Gen.KernelIdeal.Frame
public import proofs.«01_k».proof.Proof.Payload
public import Idealize.ShloMosaic.Lib.Pipeline.ValueKit
public import Idealize.ShloMosaic.Lib.Pipeline.ReadBack

@[expose] public section
open Idealize Idealize.ShloMosaic
set_option maxRecDepth 16384
namespace Cert.KernelIdeal.Body
open Cert.KernelIdeal Cert.KernelIdeal.Gen
variable (m : (ℓ : Loc nD τ sig) → Buf (Elt Ideal) ℓ)
/-- 512 rows put together from 400, 26 and 86 rows. -/
noncomputable def stack3 (f : Vec Ideal S400x1024 .f32) (sp : Vec Ideal S26x1024 .f32) (z : Vec Ideal S86x1024 .f32) :
    Vec Ideal S512x1024 .f32 := fun y =>
  if h : (y 0).val < 400 then f (ix2 ⟨(y 0).val, h⟩ (y 1))
  else if h' : (y 0).val < 426 then sp (ix2 ⟨(y 0).val - 400, by omega⟩ (y 1))
  else z (ix2 ⟨(y 0).val - 426, by have := (y 0).isLt; change (y 0).val < 512 at this; omega⟩ (y 1))

/-- Three stores of 86, 26 and 400 rows leave their rows put together. -/
theorem canon_stack3 (f : Vec Ideal S400x1024 .f32) (sp : Vec Ideal S26x1024 .f32) (z : Vec Ideal S86x1024 .f32)
    (h1 : ∀ a, ![426, 0] a + ![86, 1024] a ≤ S512x1024.size a) (h2 : ∀ a, ![400, 0] a + ![26, 1024] a ≤ S512x1024.size a)
    (h3 : ∀ a, ![0, 0] a + ![400, 1024] a ≤ S512x1024.size a) :
    View.canon (Val := Elt Ideal) (e := .f32) (s := S512x1024)
        [⟨Rect.unit (s := S512x1024) ![426, 0] ![86, 1024] h1, z⟩,
          ⟨Rect.unit (s := S512x1024) ![400, 0] ![26, 1024] h2, sp⟩,
          ⟨Rect.unit (s := S512x1024) ![0, 0] ![400, 1024] h3, f⟩] = stack3 f sp z := by
  funext y
  canon_tiles x h using (View.cover_of_tiledBy _ ![2, 1024] (by sl_kernel_rfl) y)
  · unfold stack3
    rw [dif_neg (by omega), dif_neg (by omega)]
    exact congrArg z (funext fun a => by fin_cases a <;> apply Fin.ext <;> simp [ix2] <;> omega)
  · unfold stack3
    rw [dif_neg (by omega), dif_pos (by omega)]
    exact congrArg sp (funext fun a => by fin_cases a <;> apply Fin.ext <;> simp [ix2] <;> omega)
  · unfold stack3
    rw [dif_pos (by omega)]
    exact congrArg f (funext fun a => by fin_cases a <;> apply Fin.ext <;> simp [ix2] <;> omega)

/-- A load of the whole scratch after the three stores reads the rows put together. -/
theorem readCov_stack3 (f : Vec Ideal S400x1024 .f32) (sp : Vec Ideal S26x1024 .f32) (z : Vec Ideal S86x1024 .f32)
    (h1 : ∀ a, ![426, 0] a + ![86, 1024] a ≤ S512x1024.size a) (h2 : ∀ a, ![400, 0] a + ![26, 1024] a ≤ S512x1024.size a)
    (h3 : ∀ a, ![0, 0] a + ![400, 1024] a ≤ S512x1024.size a) (h4 : ∀ a, ![0, 0] a + ![512, 1024] a ≤ S512x1024.size a) :
    (View.whole cc0_scratch0).readCov (Val := Elt Ideal)
        [⟨Rect.unit (s := S512x1024) ![426, 0] ![86, 1024] h1, z⟩,
          ⟨Rect.unit (s := S512x1024) ![400, 0] ![26, 1024] h2, sp⟩,
          ⟨Rect.unit (s := S512x1024) ![0, 0] ![400, 1024] h3, f⟩]
        (Rect.unit (s := S512x1024) ![0, 0] ![512, 1024] h4).toLoadRect = stack3 f sp z := by
  rw [View.readCov_eq_canon', canon_stack3]
  exact View.ld_unit_lit (S := S512x1024) h4 (stack3 f sp z) (by decide)

/-- The table in the kernel's scratch: 400 regular rows, the 26 special ones, and zeros. -/
noncomputable def tabOf (f : Vec Ideal S400x1024 .f32) (sp : Vec Ideal S26x1024 .f32) : Vec Ideal S512x1024 .f32 :=
  stack3 (k0_pay1 (F := Ideal) f) (k0_pay2 (F := Ideal) sp) (k0_pay3 (F := Ideal))

/-- At the first point of a core's run the table scratch ends as the rows put together. -/
theorem scratchA (c : Dev nD) (t : Fin cfg0.N) (h : t.val % 4 = 0) :
    (outsAt0 m c t.val t.isLt).2.1 = tabOf (iblk m c 2 t) (iblk m c 3 t) := by
  rw [outsAt0_A m c t h]
  dsimp only
  frame_out
  exact canon_stack3 _ _ _ _ _ _

/-- The table as a load of the whole scratch reads it after the three stores. -/
noncomputable def tabLoad (f : Vec Ideal S400x1024 .f32) (sp : Vec Ideal S26x1024 .f32) : Vec Ideal S512x1024 .f32 :=
  (View.whole cc0_scratch0).readCov (Val := Elt Ideal)
        [⟨Rect.unit (s := S512x1024) ![426, 0] ![86, 1024] inb_S512x1024_S86x1024_426_0, k0_pay3 (F := Ideal)⟩,
          ⟨Rect.unit (s := S512x1024) ![400, 0] ![26, 1024] inb_S512x1024_S26x1024_400_0, k0_pay2 (F := Ideal) sp⟩,
          ⟨Rect.unit (s := S512x1024) ![0, 0] ![400, 1024] inb_S512x1024_S400x1024_0_0, k0_pay1 (F := Ideal) f⟩]
        (Rect.unit (s := S512x1024) ![0, 0] ![512, 1024] inb_S512x1024_S512x1024_0_0).toLoadRect

/-- The table that the body loads back after its stores is the rows put together. -/
theorem tabLoad_eq (f : Vec Ideal S400x1024 .f32) (sp : Vec Ideal S26x1024 .f32) : tabLoad f sp = tabOf f sp :=
  readCov_stack3 _ _ _ _ _ _ _

/-- At the first point of a core's run the gate scratch ends as the gate column of that table. -/
theorem scratchA1 (c : Dev nD) (t : Fin cfg0.N) (h : t.val % 4 = 0) :
    (outsAt0 m c t.val t.isLt).2.2 = k0_pay5 (F := Ideal) (k0_pay4 (F := Ideal) (tabOf (iblk m c 2 t) (iblk m c 3 t)) (iblk m c 5 t))
     (iblk m c 6 t) (iblk m c 4 t) (iblk m c 7 t) (iblk m c 8 t) (iblk m c 9 t) := by
  rw [outsAt0_A m c t h, ← tabLoad_eq]
  dsimp only
  frame_out
  unfold tabLoad k0_pay4 k0_pay3 k0_pay2 k0_pay1
  rfl

/-- The out block from the block's number, its ids and weights, the gate column and the table. -/
noncomputable def outVal (b : ℕ) (ids : Vec Ideal S1024x1 .i32) (shp : Vec Ideal S1024x20 .f32)
    (gcol : Vec Ideal S512x128 .f32) (tab : Vec Ideal S512x1024 .f32) : Vec Ideal S1024x1024 .f32 :=
  k0_pay20 (F := Ideal) (BitVec.ofNat 32 b) (k0_pay7 (F := Ideal) shp) (k0_pay8 (F := Ideal) ids)
    (k0_pay14 (F := Ideal) (k0_pay10 (F := Ideal) ids))
    (k0_pay15 (F := Ideal) (k0_pay11 (F := Ideal) ids) (k0_pay12 (F := Ideal) ids) k0_pay13)
    (iota .tc S20x512 32 [0] iota_S20x512_d0_w32)
    (20#32) k0_pay16 k0_pay17 k0_pay18 k0_pay19 gcol tab

/-- The gate column from the table and the gate's weights. -/
noncomputable def gcolOf (tab : Vec Ideal S512x1024 .f32) (lw lb : Vec Ideal S1x1024 .f32) (W1 : Vec Ideal S1024x1024 .f32)
    (b1 : Vec Ideal S1x1024 .f32) (W2 : Vec Ideal S1024x1 .f32) (b2 : Vec Ideal S1x1 .f32) : Vec Ideal S512x128 .f32 :=
  k0_pay5 (F := Ideal) (k0_pay4 (F := Ideal) tab lw) lb W1 b1 W2 b2

/-- Which block each window reads at a point. -/
theorem idx (t : Fin cfg0.N) : win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ (grid0.coords t 0).val = t.val := by
  revert t; decide +kernel

/-- There are four points. -/
theorem lt_four (t : Fin cfg0.N) : t.val < 4 := t.isLt

/-- The blocks of the windows that every point reads whole. -/
theorem blk2 (c : Dev nD) (t : Fin cfg0.N) : iblk m c 2 t = V m c main_v5 := by
  funext y; blk_ext [iblk, idx t]
/-- The block of `special_embedding` is the whole array at every point. -/
theorem blk3 (c : Dev nD) (t : Fin cfg0.N) : iblk m c 3 t = V m c main_arg2 := by
  funext y; blk_ext [iblk, idx t]
/-- The block of `W1` is the whole array. -/
theorem blk4 (c : Dev nD) (t : Fin cfg0.N) : iblk m c 4 t = V m c main_arg6 := by
  funext y; blk_ext [iblk, idx t]
/-- The block of `ln_w` is the whole array. -/
theorem blk5 (c : Dev nD) (t : Fin cfg0.N) : iblk m c 5 t = V m c main_v6 := by
  funext y; blk_ext [iblk, idx t]
/-- The block of `ln_b` is the whole array. -/
theorem blk6 (c : Dev nD) (t : Fin cfg0.N) : iblk m c 6 t = V m c main_v7 := by
  funext y; blk_ext [iblk, idx t]
/-- The block of `b1` is the whole array. -/
theorem blk7 (c : Dev nD) (t : Fin cfg0.N) : iblk m c 7 t = V m c main_v8 := by
  funext y; blk_ext [iblk, idx t]
/-- The block of `W2` is the whole array. -/
theorem blk8 (c : Dev nD) (t : Fin cfg0.N) : iblk m c 8 t = V m c main_arg8 := by
  funext y; blk_ext [iblk, idx t]
/-- The block of `b2` is the whole array. -/
theorem blk9 (c : Dev nD) (t : Fin cfg0.N) : iblk m c 9 t = V m c main_v9 := by
  funext y; blk_ext [iblk, idx t]

/-- A block's ids and weights are the arrays' at the block's tokens. -/
theorem blk0 (c : Dev nD) (t : Fin cfg0.N) (r : Fin 1024) :
    iblk m c 0 t (ix2 r 0) = V m c main_v0 (ix2 ⟨1024 * t.val + r.val, by have := lt_four t; omega⟩ 0) := by
  blk_ext [iblk, idx t]
/-- Where a block of the weights lies in their array. -/
theorem emb1 (t : Fin cfg0.N) (r : Fin 1024) (s : Fin 20) :
    (win0_1.blk t).view.emb (ix2 r s) = ix2 ⟨1024 * t.val + r.val, by have := lt_four t; omega⟩ s := by
  blk_ext [idx t]

/-- The block of structure weights at an entry. -/
theorem blk1 (c : Dev nD) (t : Fin cfg0.N) (r : Fin 1024) (s : Fin 20) :
    iblk m c 1 t (ix2 r s) = V m c main_v4 (ix2 ⟨1024 * t.val + r.val, by have := lt_four t; omega⟩ s) := by
  unfold iblk
  exact congrArg (V m c main_v4) (emb1 t r s)

/-- The result block of a core's first point. -/
theorem outA (c : Dev nD) (t : Fin cfg0.N) (h : t.val % 4 = 0) :
    (outsAt0 m c t.val t.isLt).1 = outVal (grid0.coords t 0).val (iblk m c 0 t) (iblk m c 1 t)
      (gcolOf (tabOf (iblk m c 2 t) (iblk m c 3 t)) (iblk m c 5 t) (iblk m c 6 t) (iblk m c 4 t) (iblk m c 7 t) (iblk m c 8 t) (iblk m c 9 t))
      (tabOf (iblk m c 2 t) (iblk m c 3 t)) := by
  rw [outsAt0_A m c t h, ← tabLoad_eq]
  dsimp only
  frame_out
  unfold outVal gcolOf tabLoad k0_pay4 k0_pay3 k0_pay2 k0_pay1
  rfl

/-- The result block of every other point. -/
theorem outB (c : Dev nD) (t : Fin cfg0.N) (h : ¬ t.val % 4 = 0) :
    (outsAt0 m c t.val t.isLt).1 = outVal (grid0.coords t 0).val (iblk m c 0 t) (iblk m c 1 t)
      (outsAt0 m c (t.val - 1) (lt_of_le_of_lt (Nat.sub_le _ _) t.isLt)).2.2 (outsAt0 m c (t.val - 1) (lt_of_le_of_lt (Nat.sub_le _ _) t.isLt)).2.1 := by
  rw [outsAt0_B m c t h]
  dsimp only
  frame_out
  simp only [read_unread_whole]
  rfl

/-- The table of the run, from the arrays that the kernel's region starts with. -/
noncomputable def tabV (c : Dev nD) : Vec Ideal S512x1024 .f32 := tabOf (V m c main_v5) (V m c main_arg2)

/-- The gate column of the run. -/
noncomputable def gcolV (c : Dev nD) : Vec Ideal S512x128 .f32 :=
  gcolOf (tabV m c) (V m c main_v6) (V m c main_v7) (V m c main_arg6) (V m c main_v8) (V m c main_arg8) (V m c main_v9)

/-- At every point the scratch holds the table and the gate column that the first point stored. -/
theorem scratch (c : Dev nD) : ∀ (n : ℕ) (hn : n < cfg0.N), (outsAt0 m c n hn).2 = (tabV m c, gcolV m c) := by
  intro n
  induction n with
  | zero =>
    intro hn
    refine Prod.ext ?_ ?_
    · rw [scratchA m c ⟨0, hn⟩ rfl, blk2, blk3]; rfl
    · rw [scratchA1 m c ⟨0, hn⟩ rfl, blk2, blk3, blk4, blk5, blk6, blk7, blk8, blk9]; rfl
  | succ n ih =>
    intro hn
    have h : ¬ (n + 1) % 4 = 0 := by have := lt_four ⟨n + 1, hn⟩; dsimp only at this; omega
    rw [outsAt0_B m c ⟨n + 1, hn⟩ h]
    exact ih (lt_trans (Nat.lt_succ_self n) hn)

/-- The out block of a point. -/
theorem outBlock (c : Dev nD) (t : Fin cfg0.N) :
    (outsAt0 m c t.val t.isLt).1 = outVal t.val (iblk m c 0 t) (iblk m c 1 t) (gcolV m c) (tabV m c) := by
  by_cases h : t.val % 4 = 0
  · rw [outA m c t h, blk2, blk3, blk4, blk5, blk6, blk7, blk8, blk9, (idx t).2.2.2.2.2.2.2.2.2.2.2]; rfl
  · rw [outB m c t h, scratch, (idx t).2.2.2.2.2.2.2.2.2.2.2]

/-- The ids of block `b`. -/
noncomputable def idsBlk (c : Dev nD) (b : ℕ) : Vec Ideal S1024x1 .i32 := fun x =>
  V m c main_v0 (ix2 ⟨(1024 * b + (x 0).val) % 4096, Nat.mod_lt _ (by decide)⟩ 0)

/-- The structure weights of block `b`. -/
noncomputable def shpBlk (c : Dev nD) (b : ℕ) : Vec Ideal S1024x20 .f32 := fun x =>
  V m c main_v4 (ix2 ⟨(1024 * b + (x 0).val) % 4096, Nat.mod_lt _ (by decide)⟩ (x 1))

/-- The block of ids at a point. -/
theorem blk0_eq (c : Dev nD) (t : Fin cfg0.N) : iblk m c 0 t = idsBlk m c t.val := by
  funext y
  have hy : y = ix2 (y 0) 0 := by blk_ext []
  have h0 : (y 0).val < 1024 := (y 0).isLt
  have h4 := lt_four t
  rw [hy]
  refine (blk0 m c t (y 0)).trans ?_
  exact congrArg (fun k => V m c main_v0 (ix2 k 0)) (Fin.ext (Nat.mod_eq_of_lt (by omega)).symm)

/-- The block of structure weights at a point. -/
theorem blk1_eq (c : Dev nD) (t : Fin cfg0.N) : iblk m c 1 t = shpBlk m c t.val := by
  funext y
  have hy : y = ix2 (y 0) (y 1) := by blk_ext []
  have h0 : (y 0).val < 1024 := (y 0).isLt
  have h4 := lt_four t
  rw [hy]
  refine (blk1 m c t (y 0) (y 1)).trans ?_
  exact congrArg (fun k => V m c main_v4 (ix2 k (y 1))) (Fin.ext (Nat.mod_eq_of_lt (by omega)).symm)

/-- The result of the run at a token and a column, as the out block that holds it. -/
noncomputable def outAt (c : Dev nD) : Vec Ideal S4096x1024 .f32 := fun y =>
  outVal ((y 0).val / 1024) (idsBlk m c ((y 0).val / 1024)) (shpBlk m c ((y 0).val / 1024))
    (gcolV m c) (tabV m c) (ix2 ⟨(y 0).val % 1024, Nat.mod_lt _ (by decide)⟩ (y 1))

/-- Where a block of the result lies in its array. -/
theorem emb10 (t : Fin cfg0.N) (y : S1024x1024.Idx) :
    (win0_10.blk t).view.emb y = ix2 ⟨1024 * t.val + (y 0).val, by have := lt_four t; have := (y 0).isLt; change (y 0).val < 1024 at this; omega⟩ (y 1) := by
  blk_ext [idx t]

/-- The out array after the run. -/
theorem arr_out (c : Dev nD) : (dats m 0 c).arrAt 10 (cfgs 0).N = outAt m c := by
  refine (dats m 0 c).arrAt_eq_of_covers 10 _ (by decide +kernel) fun t hf y => ?_
  blk_simp
  rw [after0_10, outBlock, blk0_eq, blk1_eq]
  refine Eq.trans ?_ (congrArg (outAt m c) (emb10 t y)).symm
  have h0 : (y 0).val < 1024 := (y 0).isLt
  have hd : (1024 * t.val + (y 0).val) / 1024 = t.val := by omega
  have hm : (1024 * t.val + (y 0).val) % 1024 = (y 0).val := by omega
  have hy : y = ix2 (y 0) (y 1) := by blk_ext []
  have key : ∀ b k : ℕ, b = t.val → (hk : k = (y 0).val) →
      outVal t.val (idsBlk m c t.val) (shpBlk m c t.val) (gcolV m c) (tabV m c) y
        = outVal b (idsBlk m c b) (shpBlk m c b) (gcolV m c) (tabV m c) (ix2 ⟨k, hk ▸ h0⟩ (y 1)) := by
    intro b k hb hk
    subst hb hk
    exact congrArg _ hy
  exact key _ _ hd hm

end Cert.KernelIdeal.Body
end
-- ==== Proof.Tail.lean ====
/- Hand-written. The kernel's arrays before and after its region, read at one index. -/
module

public import proofs.«01_k».proof.Proof.Body
public import Idealize.ShloMosaic.Lib.Pointwise
public import Idealize.ShloMosaic.Lib.ValueIdx

@[expose] public section

set_option maxRecDepth 16384

namespace Cert.KernelIdeal.Body

open Idealize Idealize.ShloMosaic Idealize.ShloMosaic.TcCoe Idealize.SL.Sem
open Cert.KernelIdeal Cert.KernelIdeal.Gen

variable (m : (ℓ : Loc nD τ sig) → Buf (Elt Ideal) ℓ)

/-- The out array as the operations after the region find it. -/
theorem out_array (c : Dev nD) :
    Pipeline.withArrays (cfgs 0).spec c (V0 m c) (fun w => (dats m 0 c).arrAt w (cfgs 0).N) (Proc.devRef .tc main_v10) = outAt m c :=
  (Pipeline.withArrays_arr (cfgs 0).spec winFacts0.arr_inj c (V0 m c) (fun w => (dats m 0 c).arrAt w (cfgs 0).N) 10).trans (arr_out m c)

/-- The result of the program is the out array in the result's shape. -/
theorem result_eq (c : Dev nD) :
    Pipeline.afterTail₀ cfgs (dats m) 0 (V0 m) [hostOps1] c main_v11
      = shapeCast S2x2048x1024 (outAt m c) shapeCasts_S4096x1024_S2x2048x1024 := by
  unfold Pipeline.afterTail₀
  show StableHlo.after hostOps1 _ _ = _
  rw [StableHlo.after_cons, StableHlo.after_nil, StableHlo.reshape_result, out_array]
  rfl

/-- The arrays that the region starts with are the arguments, in the region's shapes. -/
theorem v0_eq (c : Dev nD) : V m c main_v0 = shapeCast S4096x1 (m (c.tc.loc main_arg0)) shapeCasts_S2x2048_S4096x1 := by
  entry_read
  rfl
/-- `full_embed`, as 400 rows. -/
theorem v5_eq (c : Dev nD) : V m c main_v5 = shapeCast S400x1024 (m (c.tc.loc main_arg3)) shapeCasts_S20x20x1024_S400x1024 := by
  entry_read
  rfl
/-- `ln_w`, as a row. -/
theorem v6_eq (c : Dev nD) : V m c main_v6 = shapeCast S1x1024 (m (c.tc.loc main_arg4)) shapeCasts_S1024_S1x1024 := by
  entry_read
  rfl
/-- `ln_b`, as a row. -/
theorem v7_eq (c : Dev nD) : V m c main_v7 = shapeCast S1x1024 (m (c.tc.loc main_arg5)) shapeCasts_S1024_S1x1024 := by
  entry_read
  rfl
/-- `b1`, as a row. -/
theorem v8_eq (c : Dev nD) : V m c main_v8 = shapeCast S1x1024 (m (c.tc.loc main_arg7)) shapeCasts_S1024_S1x1024 := by
  entry_read
  rfl
/-- `b2`, as a matrix of one entry. -/
theorem v9_eq (c : Dev nD) : V m c main_v9 = shapeCast S1x1 (m (c.tc.loc main_arg9)) shapeCasts_S1_S1x1 := by
  entry_read
  rfl

/-- The structure weights, in an array of zeros at the positions that are written. -/
noncomputable def weights (c : Dev nD) : Vec Ideal S2x2048x20 .f32 :=
  Host.scatter scatter_S2x2048x20_S1_S2x2046x20_012_n_1_0 (fun _ (b : EReal) => b)
    (broadcastInDim S2x2048x20 ![] bcast_S_S2x2048x20 (constant (F := Ideal) S_ FTy.f32 0#32))
    (broadcastInDim S1 ![] bcast_S_S1 (constantI S_ 32 1#32)) (m (c.tc.loc main_arg1))

/-- The structure weights, one row to a token. -/
theorem v4_eq (c : Dev nD) : V m c main_v4 = shapeCast S4096x20 (weights m c) shapeCasts_S2x2048x20_S4096x20 := by
  entry_read
  show StableHlo.after hostOps0 _ _ = _
  repeat rw [StableHlo.after_cons]
  rw [StableHlo.after_nil]
  repeat (first
    | rw [StableHlo.reshape_result] | rw [StableHlo.nullary_result] | rw [StableHlo.unary_result] | rw [StableHlo.ternary_result]
    | (rw [StableHlo.reshape_result_ne]; rotate_left; decide)
    | (rw [StableHlo.nullary_result_ne]; rotate_left; decide)
    | (rw [StableHlo.unary_result_ne]; rotate_left; decide)
    | (rw [StableHlo.ternary_result_ne]; rotate_left; decide))
  rfl

/-- `special_embedding` is not touched before the region. -/
theorem arg2_eq (c : Dev nD) : V m c main_arg2 = m (c.tc.loc main_arg2) := by
  entry_read
  first | done | rfl
/-- Nor is `W1`, -/
theorem arg6_eq (c : Dev nD) : V m c main_arg6 = m (c.tc.loc main_arg6) := by
  entry_read
  first | done | rfl
/-- nor `W2`. -/
theorem arg8_eq (c : Dev nD) : V m c main_arg8 = m (c.tc.loc main_arg8) := by
  entry_read
  first | done | rfl

/-- The result of the program at a token and a column. -/
theorem result_apply (c : Dev nD) (b : Fin 2) (p : Fin 2048) (d : Fin 1024) :
    Pipeline.afterTail₀ cfgs (dats m) 0 (V0 m) [hostOps1] c main_v11 (ix3 b p d)
      = outAt m c (ix2 ⟨2048 * b.val + p.val, by omega⟩ d) := by
  rw [result_eq]
  refine shapeCast_apply (s := S4096x1024) (t := S2x2048x1024) _ _ _ _ ?_
  rw [Shape.rowMajor_val_two, Shape.rowMajor_val_three]
  show (2048 * b.val + p.val) * 1024 + d.val = (b.val * 2048 + p.val) * 1024 + d.val
  omega

/-- An id of the run. -/
theorem ids_apply (c : Dev nD) (b : Fin 2) (p : Fin 2048) :
    V m c main_v0 (ix2 ⟨2048 * b.val + p.val, by omega⟩ 0) = m (c.tc.loc main_arg0) (ix2 b p) := by
  rw [v0_eq]
  pointwise

/-- A structure weight of the run. -/
theorem weights_apply (c : Dev nD) (b : Fin 2) (p : Fin 2048) (s : Fin 20) :
    V m c main_v4 (ix2 ⟨2048 * b.val + p.val, by omega⟩ s) = weights m c (ix3 b p s) := by
  rw [v4_eq]
  refine shapeCast_apply (s := S2x2048x20) (t := S4096x20) _ _ _ _ ?_
  rw [Shape.rowMajor_val_three, Shape.rowMajor_val_two]
  show (b.val * 2048 + p.val) * 20 + s.val = (2048 * b.val + p.val) * 20 + s.val
  omega

/-- A row of `full_embed` in the region's array. -/
theorem emb_apply (c : Dev nD) (a s : Fin 20) (d : Fin 1024) :
    V m c main_v5 (ix2 ⟨20 * a.val + s.val, by omega⟩ d) = m (c.tc.loc main_arg3) (ix3 a s d) := by
  rw [v5_eq]
  refine shapeCast_apply (s := S20x20x1024) (t := S400x1024) _ _ _ _ ?_
  rw [Shape.rowMajor_val_three, Shape.rowMajor_val_two]
  show (a.val * 20 + s.val) * 1024 + d.val = (20 * a.val + s.val) * 1024 + d.val
  omega

/-- The gate's weights in the region's arrays. -/
theorem lw_apply (c : Dev nD) (j : Fin 1024) : V m c main_v6 (ix2 0 j) = m (c.tc.loc main_arg4) (ix1 j) := by
  rw [v6_eq]
  pointwise
/-- An entry of `ln_b` in the region's array. -/
theorem lb_apply (c : Dev nD) (j : Fin 1024) : V m c main_v7 (ix2 0 j) = m (c.tc.loc main_arg5) (ix1 j) := by
  rw [v7_eq]
  pointwise
/-- An entry of `b1` in the region's array. -/
theorem b1_apply (c : Dev nD) (j : Fin 1024) : V m c main_v8 (ix2 0 j) = m (c.tc.loc main_arg7) (ix1 j) := by
  rw [v8_eq]
  pointwise
/-- The entry of `b2` in the region's array. -/
theorem b2_apply (c : Dev nD) : V m c main_v9 (ix2 0 0) = m (c.tc.loc main_arg9) (ix1 0) := by
  rw [v9_eq]
  pointwise

end Cert.KernelIdeal.Body

end
-- ==== Proof.Value.lean ====
/- Hand-written. The kernel's result at one token and column, in the same terms as the reference's. -/
module

public import proofs.«01_k».proof.Proof.Tail

@[expose] public section

set_option maxRecDepth 16384

namespace Cert.KernelIdeal.Body

open Idealize Idealize.ShloMosaic Idealize.ShloMosaic.TcCoe Idealize.SL.Sem
open Cert.KernelIdeal Cert.KernelIdeal.Gen Cert.Embed

variable (m : (ℓ : Loc nD τ sig) → Buf (Elt Ideal) ℓ)

/-- An entry of `full_embed`. -/
noncomputable abbrev embAt (c : Dev nD) (q r : Fin 20) (d : Fin 1024) : EReal := m (c.tc.loc main_arg3) (ix3 q r d)

/-- The id of a token. -/
abbrev idAt (c : Dev nD) (b : Fin 2) (p : Fin 2048) : BitVec 32 := m (c.tc.loc main_arg0) (ix2 b p)

/-- The gate that the kernel gives a row. -/
noncomputable def gate (c : Dev nD) (x : Fin 1024 → EReal) : EReal :=
  gateOf (fun j => m (c.tc.loc main_arg4) (ix1 j)) (fun j => m (c.tc.loc main_arg5) (ix1 j))
        (fun j k => m (c.tc.loc main_arg6) (ix2 j k)) (fun k => m (c.tc.loc main_arg7) (ix1 k))
        (fun k => m (c.tc.loc main_arg8) (ix2 k 0)) (m (c.tc.loc main_arg9) (ix1 0)) x

/-- The first 400 rows of the rows put together. -/
theorem stack3_first (f : Vec Ideal S400x1024 .f32) (sp : Vec Ideal S26x1024 .f32) (z : Vec Ideal S86x1024 .f32) (k : Fin 512)
    (d : Fin 1024) (h : k.val < 400) : stack3 f sp z (ix2 k d) = f (ix2 ⟨k.val, h⟩ d) := dif_pos h

/-- The next 26 rows of the rows put together. -/
theorem stack3_second (f : Vec Ideal S400x1024 .f32) (sp : Vec Ideal S26x1024 .f32) (z : Vec Ideal S86x1024 .f32) (k : Fin 512)
    (d : Fin 1024) (h : ¬ k.val < 400) (h' : k.val < 426) : stack3 f sp z (ix2 k d) = sp (ix2 ⟨k.val - 400, by omega⟩ d) :=
  (dif_neg h).trans (dif_pos h')

/-- The stored regular rows are the loaded ones. -/
theorem pay1_apply (f : Vec Ideal S400x1024 .f32) (x : S400x1024.Idx) : k0_pay1 (F := Ideal) f x = f x := by
  unfold k0_pay1
  simp only [shapeCast_self]

/-- The stored special rows are the loaded ones. -/
theorem pay2_apply (f : Vec Ideal S26x1024 .f32) (x : S26x1024.Idx) : k0_pay2 (F := Ideal) f x = f x := by
  unfold k0_pay2
  simp only [shapeCast_self]

/-- A regular row of the run's table. -/
theorem tab_regular (c : Dev nD) (a s : Fin 20) (d : Fin 1024) :
    tabV m c (ix2 ⟨20 * a.val + s.val, by omega⟩ d) = embAt m c a s d := by
  unfold tabV tabOf
  refine (stack3_first _ _ _ _ d (show 20 * a.val + s.val < 400 by omega)).trans ?_
  refine Eq.trans ?_ (emb_apply m c a s d)
  exact pay1_apply _ _

/-- A special row of the run's table. -/
theorem tab_special (c : Dev nD) (w : Fin 26) (d : Fin 1024) :
    tabV m c (ix2 ⟨400 + w.val, by omega⟩ d) = m (c.tc.loc main_arg2) (ix2 w d) := by
  unfold tabV tabOf
  refine (stack3_second _ _ _ _ d (show ¬ 400 + w.val < 400 by omega) (show 400 + w.val < 426 by omega)).trans ?_
  refine (pay2_apply _ _).trans ?_
  rw [arg2_eq]
  exact congrArg (fun k : Fin 26 => m (c.tc.loc main_arg2) (ix2 k d)) (Fin.ext (show 400 + w.val - 400 = w.val by omega))

/-- Equal weights give equal gates. -/
theorem gateOf_congr {lw lw' lb lb' : Fin 1024 → EReal} {W1 W1' : Fin 1024 → Fin 1024 → EReal} {b1 b1' W2 W2' : Fin 1024 → EReal}
    {b2 b2' : EReal} (x : Fin 1024 → EReal) (h1 : ∀ j, lw j = lw' j) (h2 : ∀ j, lb j = lb' j) (h3 : W1 = W1')
    (h4 : ∀ j, b1 j = b1' j) (h5 : W2 = W2') (h6 : b2 = b2') : gateOf lw lb W1 b1 W2 b2 x = gateOf lw' lb' W1' b1' W2' b2' x := by
  obtain rfl := funext h1
  obtain rfl := funext h2
  obtain rfl := funext h4
  rw [h3, h5, h6]

/-- The run's gate column at a row of the table is the gate of that row. -/
theorem gcol_apply (c : Dev nD) (k : Fin 512) : gcolV m c (ix2 k 0) = gate m c (fun j => tabV m c (ix2 k j)) := by
  unfold gcolV gcolOf
  refine (gate_col _ _ _ _ _ _ _ k 0).trans ?_
  refine gateOf_congr _ (lw_apply m c) (lb_apply m c) ?_ (b1_apply m c) ?_ (b2_apply m c)
  · rw [arg6_eq]
  · rw [arg8_eq]

/-- The gate is real, from 0 to 1. -/
theorem gate_real (c : Dev nD) (x : Fin 1024 → EReal) : ∃ g : ℝ, 0 ≤ g ∧ g ≤ 1 ∧ gate m c x = (g : EReal) := gateOf_real ..

/-- One entry of the kernel's result: the special row of a special token; inside the written positions the blend of
    the weighted sum of the sequence's rows and the token's own row; else zero. -/
theorem kernel_apply (c : Dev nD) (b : Fin 2) (p : Fin 2048) (d : Fin 1024) (hid : (idAt m c b p).toNat < 2 ^ 31)
    (hd : (∀ s, 0 ≤ weights m c (ix3 b p s)) ∨ ∀ q r, embAt m c q r d ≠ ⊤ ∧ embAt m c q r d ≠ ⊥) :
    Pipeline.afterTail₀ cfgs (dats m) 0 (V0 m) [hostOps1] c main_v11 (ix3 b p d)
      = if h : (idAt m c b p).toNat < 25 then m (c.tc.loc main_arg2) (ix2 ⟨(idAt m c b p).toNat, by omega⟩ d)
        else if 1 ≤ p.val ∧ p.val ≤ 2046 then
          @HAdd.hAdd EReal EReal EReal _
            (gate m c (embAt m c ⟨regRow (idAt m c b p) / 20, by have := regRow_lt (idAt m c b p); omega⟩
                ⟨regRow (idAt m c b p) % 20, Nat.mod_lt _ (by decide)⟩)
              * ∑ s, embAt m c ⟨regRow (idAt m c b p) / 20, by have := regRow_lt (idAt m c b p); omega⟩ s d
                  * weights m c (ix3 b p s))
            ((1 - gate m c (embAt m c ⟨regRow (idAt m c b p) / 20, by have := regRow_lt (idAt m c b p); omega⟩
                ⟨regRow (idAt m c b p) % 20, Nat.mod_lt _ (by decide)⟩))
              * embAt m c ⟨regRow (idAt m c b p) / 20, by have := regRow_lt (idAt m c b p); omega⟩
                ⟨regRow (idAt m c b p) % 20, Nat.mod_lt _ (by decide)⟩ d)
        else (0 : EReal) := by
  choose g hg0 hg1 hg using fun k : Fin 512 => gate_real m c (fun j => tabV m c (ix2 k j))
  have hB : (2048 * b.val + p.val) / 1024 < 4 := by omega
  have hN : 1024 * ((2048 * b.val + p.val) / 1024) + (2048 * b.val + p.val) % 1024 = 2048 * b.val + p.val := Nat.div_add_mod _ _
  have hids : idsBlk m c ((2048 * b.val + p.val) / 1024) (ix2 ⟨(2048 * b.val + p.val) % 1024, Nat.mod_lt _ (by decide)⟩ 0)
      = idAt m c b p := by
    refine Eq.trans ?_ (ids_apply m c b p)
    exact congrArg (fun k => V m c main_v0 (ix2 k 0)) (Fin.ext (show (1024 * ((2048 * b.val + p.val) / 1024)
      + (2048 * b.val + p.val) % 1024) % 4096 = 2048 * b.val + p.val by omega))
  have hshp : ∀ s, shpBlk m c ((2048 * b.val + p.val) / 1024) (ix2 ⟨(2048 * b.val + p.val) % 1024, Nat.mod_lt _ (by decide)⟩ s)
      = weights m c (ix3 b p s) := fun s => by
    rw [← weights_apply m c b p s]
    exact congrArg (fun k => V m c main_v4 (ix2 k s)) (Fin.ext (show (1024 * ((2048 * b.val + p.val) / 1024)
      + (2048 * b.val + p.val) % 1024) % 4096 = 2048 * b.val + p.val by omega))
  rw [result_apply]
  have key := out_apply ⟨(2048 * b.val + p.val) / 1024, hB⟩ (idsBlk m c ((2048 * b.val + p.val) / 1024))
    (shpBlk m c ((2048 * b.val + p.val) / 1024)) (gcolV m c) (tabV m c)
    ⟨(2048 * b.val + p.val) % 1024, Nat.mod_lt _ (by decide)⟩ d (by rw [hids]; exact hid) g
    (fun k => (gcol_apply m c k).trans (hg k)) hg0 hg1 (fun q r => embAt m c q r d) (fun q r => tab_regular m c q r d)
    (hd.imp (fun h s => by rw [hshp]; exact h s) id)
  refine Eq.trans key ?_
  simp only [hids, hshp, gcol_apply]
  have hP : (1024 * ((2048 * b.val + p.val) / 1024) + (2048 * b.val + p.val) % 1024) % 2048 = p.val := by omega
  have hrow : (fun j => tabV m c (ix2 ⟨regRow (idAt m c b p), by have := regRow_lt (idAt m c b p); omega⟩ j))
      = embAt m c ⟨regRow (idAt m c b p) / 20, by have := regRow_lt (idAt m c b p); omega⟩
          ⟨regRow (idAt m c b p) % 20, Nat.mod_lt _ (by decide)⟩ := funext fun j => by
    refine Eq.trans ?_ (tab_regular m c _ _ j)
    exact congrArg (fun k : Fin 512 => tabV m c (ix2 k j)) (Fin.ext (Nat.div_add_mod _ 20).symm)
  rw [hP, hrow]
  by_cases h : (idAt m c b p).toNat < 25
  · rw [dif_pos h, dif_pos h]
    exact tab_special m c ⟨(idAt m c b p).toNat, by omega⟩ d
  · rw [dif_neg h, dif_neg h]

end Cert.KernelIdeal.Body

end
-- ==== Proof.Claims.lean ====
/- Hand-written. The claims, one theorem each. -/
module

public import proofs.«01_k».proof.Defs
public import proofs.«01_k».proof.Proof.Gen.Kernel.Frame
public import proofs.«01_k».proof.Proof.Gen.ReferenceIdeal.Run
public import proofs.«01_k».proof.Proof.Domain
public import proofs.«01_k».proof.Proof.RefValue
public import proofs.«01_k».proof.Proof.Value
public import Idealize.ShloMosaic.Lib.Quiescent
public import Idealize.ShloMosaic.Lib.Routing.OpsOrder

@[expose] public section

set_option maxRecDepth 16384

noncomputable section

open Idealize Idealize.ShloMosaic Idealize.ShloMosaic.TcCoe Idealize.SL.Sem

namespace Cert.Proof

/-- The kernel as printed ends with its arguments unchanged and its counters at zero. -/
theorem frame_kernel : Cert.quiescent_Kernel := fun m ρ _ => Cert.Kernel.Gen.frame m ρ

/-- So does the kernel at the extended reals, -/
theorem frame_ideal : Cert.quiescent_KernelIdeal := fun m ρ _ => Cert.KernelIdeal.Gen.frame m ρ

/-- also from the inputs of the precondition. -/
theorem frame_ideal_pre : Cert.quiescent_KernelIdeal_pre_inputs_in_domain := fun m ρ _ => Cert.KernelIdeal.Gen.frame m ρ

/-- The reference ends with its arguments unchanged, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- also from the inputs of the precondition. -/
theorem frame_reference_pre : Cert.quiescent_ReferenceIdeal_pre_inputs_in_domain := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant has the value that the table gives it. -/
theorem preserves : Cert.preserves_Kernel_KernelIdeal :=
  IdealRules.named_const.statement Cert.KernelIdeal.κ "inv_sqrt2" .f32 0x3F3504F3#32 _ rfl

/-- The weights of the kernel are not negative where those of `shp_tensor` are not. -/
theorem weights_nonneg (m : (ℓ : Loc KernelIdeal.nD KernelIdeal.τ KernelIdeal.sig) → Buf (Elt Ideal) ℓ) (c : Dev KernelIdeal.nD)
    (h : ∀ i, (0 : EReal) ≤ m (c.tc.loc KernelIdeal.main_arg1) i) (i : KernelIdeal.S2x2048x20.Idx) :
    (0 : EReal) ≤ KernelIdeal.Body.weights m c i := by
  unfold KernelIdeal.Body.weights
  refine Routing.scatter_forall _ _ (fun x : EReal => 0 ≤ x) (fun _ _ _ hb => hb) _ _ _ (fun i => ?_) h i
  show (0 : EReal) ≤ Ideal.ofBits .f32 0#32
  exact Ideal.ofBits_zero_f32.ge

section Value

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)

/-- From memories that agree on the arguments and satisfy the precondition, the kernel's result is the reference's. -/
theorem value_eq
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (h3 : m' (c.tc.loc ReferenceIdeal.main_arg3) = m (c.tc.loc KernelIdeal.main_arg3))
    (h4 : m' (c.tc.loc ReferenceIdeal.main_arg4) = m (c.tc.loc KernelIdeal.main_arg4))
    (h5 : m' (c.tc.loc ReferenceIdeal.main_arg5) = m (c.tc.loc KernelIdeal.main_arg5))
    (h6 : m' (c.tc.loc ReferenceIdeal.main_arg6) = m (c.tc.loc KernelIdeal.main_arg6))
    (h7 : m' (c.tc.loc ReferenceIdeal.main_arg7) = m (c.tc.loc KernelIdeal.main_arg7))
    (h8 : m' (c.tc.loc ReferenceIdeal.main_arg8) = m (c.tc.loc KernelIdeal.main_arg8))
    (h9 : m' (c.tc.loc ReferenceIdeal.main_arg9) = m (c.tc.loc KernelIdeal.main_arg9))
    (hids : ∀ b p, (KernelIdeal.Body.idAt m c b p).toNat < 2 ^ 31)
    (hd : (∀ i, (0 : EReal) ≤ KernelIdeal.Body.weights m c i)
      ∨ ∀ q r d, KernelIdeal.Body.embAt m c q r d ≠ ⊤ ∧ KernelIdeal.Body.embAt m c q r d ≠ ⊥)
    (b : Fin 2) (p : Fin 2048) (d : Fin 1024) :
    Pipeline.afterTail₀ KernelIdeal.cfgs (KernelIdeal.Gen.dats m) 0 (KernelIdeal.Gen.V0 m) [KernelIdeal.Gen.hostOps1] c
        KernelIdeal.main_v11 (ix3 b p d)
      = ReferenceIdeal.Value.val3 (F := Ideal) (StableHlo.launchContents m' c) (Proc.devRef .tc ReferenceIdeal.main_v94)
        (ix3 b p d) := by
  have hI : ∀ b p, ReferenceIdeal.Read.idAt (StableHlo.launchContents m' c) b p = KernelIdeal.Body.idAt m c b p :=
    fun b p => congrFun h0 (ix2 b p)
  have hE : ∀ q r d, ReferenceIdeal.Read.embAt (StableHlo.launchContents m' c) q r d = KernelIdeal.Body.embAt m c q r d :=
    fun q r d => congrFun h3 (ix3 q r d)
  have hW : ReferenceIdeal.Read.weights (StableHlo.launchContents m' c) = KernelIdeal.Body.weights m c := by
    unfold ReferenceIdeal.Read.weights
    refine (congrArg (fun u => Host.scatter ReferenceIdeal.scatter_S2x2048x20_S1_S2x2046x20_012_n_1_0 (fun _ (b : EReal) => b)
      _ _ u) h1).trans ?_
    rfl
  have hG : ∀ x, ReferenceIdeal.Read.refGate (StableHlo.launchContents m' c) x = KernelIdeal.Body.gate m c x := fun x =>
    KernelIdeal.Body.gateOf_congr x (fun j => congrFun h4 (ix1 j)) (fun j => congrFun h5 (ix1 j))
      (funext fun j => funext fun k => congrFun h6 (ix2 j k)) (fun k => congrFun h7 (ix1 k))
      (funext fun k => congrFun h8 (ix2 k 0)) (congrFun h9 (ix1 0))
  rw [KernelIdeal.Body.kernel_apply m c b p d (hids b p) (hd.imp (fun h s => h _) (fun h q r => h q r d))]
  refine Eq.trans ?_ (ReferenceIdeal.Read.ref_apply _ (fun b p => by rw [hI]; exact hids b p) b p d).symm
  rw [hI, hW]
  by_cases h : (KernelIdeal.Body.idAt m c b p).toNat < 25
  · rw [dif_pos h, if_pos h]
    unfold ReferenceIdeal.Read.specRow
    rw [dif_pos h]
    exact (congrFun h2 (ix2 ⟨(KernelIdeal.Body.idAt m c b p).toNat, by omega⟩ d)).symm
  · rw [dif_neg h, if_neg h, hG, hE, funext (hE _ _)]
    simp only [hE]
    rfl

end Value

/-- Every run of the kernel ends with its result at the value read above and its arguments unchanged. -/
theorem kernel_run (m : (ℓ : Loc KernelIdeal.nD KernelIdeal.τ KernelIdeal.sig) → Buf (Elt Ideal) ℓ)
    (ρ : Dev KernelIdeal.nD → PrngReg) :
    θ_run KernelIdeal.defs (onTc (τ := KernelIdeal.τ) (KernelIdeal.main (F := Ideal))) ⟨m, fun _ => 0, ρ⟩ fun r =>
      ∀ c : Dev KernelIdeal.nD,
      r.2.mem ((c.tc : Thread KernelIdeal.nD KernelIdeal.τ).loc KernelIdeal.main_v11)
        = Pipeline.afterTail₀ KernelIdeal.cfgs (KernelIdeal.Gen.dats m) 0 (KernelIdeal.Gen.V0 m) [KernelIdeal.Gen.hostOps1] c
          KernelIdeal.main_v11
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8)
      ∧ r.2.mem ((c.tc : Thread KernelIdeal.nD KernelIdeal.τ).loc KernelIdeal.main_arg9) = m ((c.tc : Thread KernelIdeal.nD KernelIdeal.τ).loc KernelIdeal.main_arg9) :=
  (θ_run KernelIdeal.defs _ _).mono
    (fun r h c => ⟨(h.1 c).2 KernelIdeal.main_v11 (by decide), h.2 c⟩)
    (θ_run_and (KernelIdeal.Gen.run_main (F := Ideal) m ρ) (KernelIdeal.Gen.unchanged (F := Ideal) m ρ))

/-- Every run of the reference ends with its result at the value read above and its arguments unchanged. -/
theorem ref_run (m : (ℓ : Loc ReferenceIdeal.nD ReferenceIdeal.τ ReferenceIdeal.sig) → Buf (Elt Ideal) ℓ)
    (ρ : Dev ReferenceIdeal.nD → PrngReg) :
    θ_run ReferenceIdeal.defs (onTc (τ := ReferenceIdeal.τ) (ReferenceIdeal.main (F := Ideal))) ⟨m, fun _ => 0, ρ⟩ fun r =>
      ∀ c : Dev ReferenceIdeal.nD,
      r.2.mem ((c.tc : Thread ReferenceIdeal.nD ReferenceIdeal.τ).loc ReferenceIdeal.main_v94)
        = ReferenceIdeal.Value.val3 (F := Ideal) (StableHlo.launchContents m c) (Proc.devRef .tc ReferenceIdeal.main_v94)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7)
      ∧ r.2.mem ((c.tc : Thread ReferenceIdeal.nD ReferenceIdeal.τ).loc ReferenceIdeal.main_arg8) = m ((c.tc : Thread ReferenceIdeal.nD ReferenceIdeal.τ).loc ReferenceIdeal.main_arg8)
      ∧ r.2.mem ((c.tc : Thread ReferenceIdeal.nD ReferenceIdeal.τ).loc ReferenceIdeal.main_arg9) = m ((c.tc : Thread ReferenceIdeal.nD ReferenceIdeal.τ).loc ReferenceIdeal.main_arg9) :=
  (θ_run ReferenceIdeal.defs _ _).mono
    (fun r h c => ⟨(h c).1.trans (ReferenceIdeal.Value.val3_main_v94 (StableHlo.launchContents m c)).symm, (h c).2⟩)
    (ReferenceIdeal.Value.run (F := Ideal) m ρ)

/-- From memories that agree on the arguments and satisfy the precondition, both programs end, with the same result and with
the arguments unchanged. -/
theorem algebraic : Cert.algebraic_KernelIdeal_ReferenceIdeal_pre_inputs_in_domain := by
  intro m g m' g' hpre hagree
  refine ⟨_, kernel_run m g, (θ_run ReferenceIdeal.defs _ _).mono (fun r h c => ⟨(h c).1.trans ?_, (h c).2⟩) (ref_run m' g')⟩
  obtain ⟨h0, h1, h2, h3, h4, h5, h6, h7, h8, h9⟩ := hagree c
  obtain ⟨hids, hd⟩ := Pre_inputs_in_domain.domain_of _ _ _ _ _ _ _ _ _ _ (hpre c)
  refine funext fun j => ?_
  rw [eq_ix3 j]
  exact (value_eq m m' c h0 h1 h2 h3 h4 h5 h6 h7 h8 h9 (fun b p => hids (ix2 b p))
    (hd.imp (weights_nonneg m c) (fun h q r d => h (ix3 q r d))) _ _ _).symm

end Cert.Proof

end
-- ==== Proof.lean ====
/- Hand-written. The proof of `Cert.Claim`: the claims of `Proof/Claims.lean` put together. -/
module

public import proofs.«01_k».proof.Defs
public import proofs.«01_k».proof.Proof.Claims

@[expose] public section

noncomputable section

namespace Cert.Proof

/-- Everything that the certificate claims. -/
theorem claim : Cert.Claim :=
  ⟨Cert.Kernel.Gen.facts, Cert.KernelIdeal.Gen.facts, Cert.ReferenceIdeal.Gen.facts, Cert.Pre_inputs_in_domain.sideConditions,
    frame_kernel, frame_ideal, frame_ideal_pre, frame_reference, frame_reference_pre, preserves, algebraic⟩

end Cert.Proof

end
